-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps2" .f32 0x24E69595#32 ((126765058482001 / 1267650600228229401496703205376 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x2x512x512 : Shape := ⟨4, ![4, 2, 512, 512]⟩
abbrev S4x8x512x512 : Shape := ⟨4, ![4, 8, 512, 512]⟩
abbrev S4x512x512 : Shape := ⟨3, ![4, 512, 512]⟩
abbrev S4x1x512x512 : Shape := ⟨4, ![4, 1, 512, 512]⟩
abbrev S_ : Shape := ⟨0, ![]⟩
abbrev S16 : Shape := ⟨1, ![16]⟩
abbrev S1x16x1x1 : Shape := ⟨4, ![1, 16, 1, 1]⟩
abbrev S4x16x512x512 : Shape := ⟨4, ![4, 16, 512, 512]⟩
abbrev S4x16x512 : Shape := ⟨3, ![4, 16, 512]⟩
abbrev S4x16 : Shape := ⟨2, ![4, 16]⟩
abbrev S4x16x1x512x512 : Shape := ⟨5, ![4, 16, 1, 512, 512]⟩
abbrev S4x1x8x512x512 : Shape := ⟨5, ![4, 1, 8, 512, 512]⟩
abbrev S4x16x8x512x512 : Shape := ⟨5, ![4, 16, 8, 512, 512]⟩
abbrev S16x8x512x512 : Shape := ⟨4, ![16, 8, 512, 512]⟩
abbrev S4x16x8x512 : Shape := ⟨4, ![4, 16, 8, 512]⟩
abbrev S4x16x8 : Shape := ⟨3, ![4, 16, 8]⟩
abbrev S4x16x1 : Shape := ⟨3, ![4, 16, 1]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x1x512x512 : S_.BroadcastsInDim S4x1x512x512 (![] : Fin 0 → Fin S4x1x512x512.rank)
  reducesTo_S4x1x512x512_S_d0_1_2_3 : S4x1x512x512.ReducesTo [0, 1, 2, 3] S_
  bcast_S16_S1x16x1x1_1 : S16.BroadcastsInDim S1x16x1x1 (![1] : Fin 1 → Fin S1x16x1x1.rank)
  bcast_S4x1x512x512_S4x16x512x512_0_1_2_3 : S4x1x512x512.BroadcastsInDim S4x16x512x512 (![0, 1, 2, 3] : Fin 4 → Fin S4x16x512x512.rank)
  bcast_S1x16x1x1_S4x16x512x512_0_1_2_3 : S1x16x1x1.BroadcastsInDim S4x16x512x512 (![0, 1, 2, 3] : Fin 4 → Fin S4x16x512x512.rank)
  reducesTo_S4x16x512x512_S4x16x512_d3 : S4x16x512x512.ReducesTo [3] S4x16x512
  reducesTo_S4x16x512_S4x16_d2 : S4x16x512.ReducesTo [2] S4x16
  bcast_S4x16x512x512_S4x16x1x512x512_0_1_3_4 : S4x16x512x512.BroadcastsInDim S4x16x1x512x512 (![0, 1, 3, 4] : Fin 4 → Fin S4x16x1x512x512.rank)
  bcast_S4x8x512x512_S4x1x8x512x512_0_2_3_4 : S4x8x512x512.BroadcastsInDim S4x1x8x512x512 (![0, 2, 3, 4] : Fin 4 → Fin S4x1x8x512x512.rank)
  bcast_S4x16x1x512x512_S4x16x8x512x512_0_1_2_3_4 : S4x16x1x512x512.BroadcastsInDim S4x16x8x512x512 (![0, 1, 2, 3, 4] : Fin 5 → Fin S4x16x8x512x512.rank)
  bcast_S4x1x8x512x512_S4x16x8x512x512_0_1_2_3_4 : S4x1x8x512x512.BroadcastsInDim S4x16x8x512x512 (![0, 1, 2, 3, 4] : Fin 5 → Fin S4x16x8x512x512.rank)
  bcast_S_S16x8x512x512 : S_.BroadcastsInDim S16x8x512x512 (![] : Fin 0 → Fin S16x8x512x512.rank)
  bcast_S16x8x512x512_S4x16x8x512x512_1_2_3_4 : S16x8x512x512.BroadcastsInDim S4x16x8x512x512 (![1, 2, 3, 4] : Fin 4 → Fin S4x16x8x512x512.rank)
  reducesTo_S4x16x8x512x512_S4x16x8x512_d4 : S4x16x8x512x512.ReducesTo [4] S4x16x8x512
  reducesTo_S4x16x8x512_S4x16x8_d3 : S4x16x8x512.ReducesTo [3] S4x16x8
  bcast_S4x16_S4x16x1_0_1 : S4x16.BroadcastsInDim S4x16x1 (![0, 1] : Fin 2 → Fin S4x16x1.rank)
  bcast_S4x16x1_S4x16x8_0_1_2 : S4x16x1.BroadcastsInDim S4x16x8 (![0, 1, 2] : Fin 3 → Fin S4x16x8.rank)
  reducesTo_S4x16x8_S4x16_d2 : S4x16x8.ReducesTo [2] S4x16
  bcast_S_S4x16x1 : S_.BroadcastsInDim S4x16x1 (![] : Fin 0 → Fin S4x16x1.rank)

variable [Facts]

def fn_where {F : FTy → Type} [FloatOps F] (arg0 : IVec S4x16x1x512x512 1) (arg1 : FVec F S4x1x8x512x512 .f32) (arg2 : FVec F S_ .f32) : FVec F S4x16x8x512x512 .f32 :=
  let v0 : FVec F S_ .f32 := id arg2
  let v1 : IVec S4x16x8x512x512 1 := broadcastInDim S4x16x8x512x512 ![0, 1, 2, 3, 4] bcast_S4x16x1x512x512_S4x16x8x512x512_0_1_2_3_4 arg0
  let v2 : FVec F S4x16x8x512x512 .f32 := broadcastInDim S4x16x8x512x512 ![0, 1, 2, 3, 4] bcast_S4x1x8x512x512_S4x16x8x512x512_0_1_2_3_4 arg1
  let v3 : FVec F S16x8x512x512 .f32 := broadcastInDim S16x8x512x512 ![] bcast_S_S16x8x512x512 v0
  let v4 : FVec F S4x16x8x512x512 .f32 := broadcastInDim S4x16x8x512x512 ![1, 2, 3, 4] bcast_S16x8x512x512_S4x16x8x512x512_1_2_3_4 v3
  let v5 : FVec F S4x16x8x512x512 .f32 := select v1 v2 v4
  v5

def fn_part2 {F : FTy → Type} [FloatOps F] (main_v12 : IVec S_ 1) (main_v32 : FVec F S4x16x1 .f32) (main_v34 : IVec S4x16x1 1) : IVec S4x16x1 1 :=
  let main_cst_11 : FVec F S_ .f32 := constant S_ .f32 0x2B8CBCCC#32
  let main_v35 : FVec F S4x16x1 .f32 := broadcastInDim S4x16x1 ![] bcast_S_S4x16x1 main_cst_11
  let main_v36 : IVec S4x16x1 1 := cmpf .oge main_v32 main_v35
  let main_v37 : IVec S4x16x1 1 := ori main_v34 main_v36
  let main_v38 : IVec S4x16x1 1 := broadcastInDim S4x16x1 ![] bcast_S_S4x16x1 main_v12
  let main_v39 : IVec S4x16x1 1 := andi main_v38 main_v37
  main_v39

def fn_part1 {F : FTy → Type} [FloatOps F] (main_arg1 : FVec F S4x8x512x512 .f32) (main_v12 : IVec S_ 1) (main_v17 : IVec S4x16x512x512 1) : IVec S4x16x1 1 :=
  let main_v18 : FVec F S4x16x512x512 .f32 := uitofp .f32 main_v17
  let main_cst : FVec F S_ .f32 := constant S_ .f32 0x00000000#32
  let main_v19 : FVec F S4x16x512 .f32 := (fun x v => Host.reduceAdd x v reducesTo_S4x16x512x512_S4x16x512_d3 h_S_) main_v18 main_cst
  let main_cst_5 : FVec F S_ .f32 := constant S_ .f32 0x00000000#32
  let main_v20 : FVec F S4x16 .f32 := (fun x v => Host.reduceAdd x v reducesTo_S4x16x512_S4x16_d2 h_S_) main_v19 main_cst_5
  let main_v21 : IVec S4x16x1x512x512 1 := broadcastInDim S4x16x1x512x512 ![0, 1, 3, 4] bcast_S4x16x512x512_S4x16x1x512x512_0_1_3_4 main_v17
  let main_v22 : FVec F S4x1x8x512x512 .f32 := broadcastInDim S4x1x8x512x512 ![0, 2, 3, 4] bcast_S4x8x512x512_S4x1x8x512x512_0_2_3_4 main_arg1
  let main_cst_6 : FVec F S_ .f32 := constant S_ .f32 0x00000000#32
  let main_v23 : FVec F S4x16x8x512x512 .f32 := fn_where (F := F) main_v21 main_v22 main_cst_6
  let main_cst_7 : FVec F S_ .f32 := constant S_ .f32 0x00000000#32
  let main_v24 : FVec F S4x16x8x512 .f32 := (fun x v => Host.reduceAdd x v reducesTo_S4x16x8x512x512_S4x16x8x512_d4 h_S_) main_v23 main_cst_7
  let main_cst_8 : FVec F S_ .f32 := constant S_ .f32 0x00000000#32
  let main_v25 : FVec F S4x16x8 .f32 := (fun x v => Host.reduceAdd x v reducesTo_S4x16x8x512_S4x16x8_d3 h_S_) main_v24 main_cst_8
  let main_v26 : FVec F S4x16x1 .f32 := broadcastInDim S4x16x1 ![0, 1] bcast_S4x16_S4x16x1_0_1 main_v20
  let main_v27 : FVec F S4x16x8 .f32 := broadcastInDim S4x16x8 ![0, 1, 2] bcast_S4x16x1_S4x16x8_0_1_2 main_v26
  let main_v28 : FVec F S4x16x8 .f32 := Host.divf main_v25 main_v27
  let main_v29 : FVec F S4x16x8 .f32 := mulf main_v28 main_v28
  let main_cst_9 : FVec F S_ .f32 := constant S_ .f32 0x00000000#32
  let main_v30 : FVec F S4x16 .f32 := (fun x v => Host.reduceAdd x v reducesTo_S4x16x8_S4x16_d2 h_S_) main_v29 main_cst_9
  let main_v31 : FVec F S4x16x1 .f32 := broadcastInDim S4x16x1 ![0, 1] bcast_S4x16_S4x16x1_0_1 main_v30
  let main_v32 : FVec F S4x16x1 .f32 := Host.sqrt main_v31
  let main_cst_10 : FVec F S_ .f32 := constant S_ .f32 0x00000000#32
  let main_v33 : FVec F S4x16x1 .f32 := broadcastInDim S4x16x1 ![] bcast_S_S4x16x1 main_cst_10
  let main_v34 : IVec S4x16x1 1 := cmpf .oeq main_v32 main_v33
  fn_part2 (F := F) main_v12 main_v32 main_v34

def fn {F : FTy → Type} [FloatOps F] (main_arg0 : FVec F S4x2x512x512 .f32) (main_arg1 : FVec F S4x8x512x512 .f32) (main_arg2 : IVec S4x512x512 32) (main_arg3 : IVec S4x1x512x512 32) : IVec S4x16x1 1 :=
  let main_c : IVec S_ 32 := constantI S_ 32 0#32
  let main_v0 : IVec S4x512x512 32 := broadcastInDim S4x512x512 ![] bcast_S_S4x512x512 main_c
  let main_v1 : IVec S4x512x512 1 := cmpi .sge main_arg2 main_v0
  let main_c_0 : IVec S_ 32 := constantI S_ 32 2#32
  let main_v2 : IVec S4x512x512 32 := broadcastInDim S4x512x512 ![] bcast_S_S4x512x512 main_c_0
  let main_v3 : IVec S4x512x512 1 := cmpi .slt main_arg2 main_v2
  let main_v4 : IVec S4x512x512 1 := andi main_v1 main_v3
  let main_c_1 : IVec S_ 1 := constantI S_ 1 1#1
  let main_v5 : IVec S_ 1 := (fun x v => Host.reduce IntOp.andi x v reducesTo_S4x512x512_S_d0_1_2 h_S_) main_v4 main_c_1
  let main_c_2 : IVec S_ 32 := constantI S_ 32 0#32
  let main_v6 : IVec S4x1x512x512 32 := broadcastInDim S4x1x512x512 ![] bcast_S_S4x1x512x512 main_c_2
  let main_v7 : IVec S4x1x512x512 1 := cmpi .sge main_arg3 main_v6
  let main_c_3 : IVec S_ 32 := constantI S_ 32 16#32
  let main_v8 : IVec S4x1x512x512 32 := broadcastInDim S4x1x512x512 ![] bcast_S_S4x1x512x512 main_c_3
  let main_v9 : IVec S4x1x512x512 1 := cmpi .slt main_arg3 main_v8
  let main_v10 : IVec S4x1x512x512 1 := andi main_v7 main_v9
  let main_c_4 : IVec S_ 1 := constantI S_ 1 1#1
  let main_v11 : IVec S_ 1 := (fun x v => Host.reduce IntOp.andi x v reducesTo_S4x1x512x512_S_d0_1_2_3 h_S_) main_v10 main_c_4
  let main_v12 : IVec S_ 1 := andi main_v5 main_v11
  let main_v13 : IVec S16 32 := iotaInDim S16 32 0
  let main_v14 : IVec S1x16x1x1 32 := broadcastInDim S1x16x1x1 ![1] bcast_S16_S1x16x1x1_1 main_v13
  let main_v15 : IVec S4x16x512x512 32 := broadcastInDim S4x16x512x512 ![0, 1, 2, 3] bcast_S4x1x512x512_S4x16x512x512_0_1_2_3 main_arg3
  let main_v16 : IVec S4x16x512x512 32 := broadcastInDim S4x16x512x512 ![0, 1, 2, 3] bcast_S1x16x1x1_S4x16x512x512_0_1_2_3 main_v14
  let main_v17 : IVec S4x16x512x512 1 := cmpi .eq main_v15 main_v16
  fn_part1 (F := F) main_arg1 main_v12 main_v17
-- ==== Kernel.lean ====
abbrev S4x2x512x512 : Shape := ⟨4, ![4, 2, 512, 512]⟩
abbrev S4x8x512x512 : Shape := ⟨4, ![4, 8, 512, 512]⟩
abbrev S4x512x512 : Shape := ⟨3, ![4, 512, 512]⟩
abbrev S4x1x512x512 : Shape := ⟨4, ![4, 1, 512, 512]⟩
abbrev S1x1 : Shape := ⟨2, ![1, 1]⟩
abbrev S1x8x256x512 : Shape := ⟨4, ![1, 8, 256, 512]⟩
abbrev S1x1x256x512 : Shape := ⟨4, ![1, 1, 256, 512]⟩
abbrev S1x2x256x512 : Shape := ⟨4, ![1, 2, 256, 512]⟩
abbrev S1x256x512 : Shape := ⟨3, ![1, 256, 512]⟩
abbrev S2x8x131072 : Shape := ⟨3, ![2, 8, 131072]⟩
abbrev S2x16x131072 : Shape := ⟨3, ![2, 16, 131072]⟩
abbrev S16x8 : Shape := ⟨2, ![16, 8]⟩
abbrev S16x512 : Shape := ⟨2, ![16, 512]⟩
abbrev S2x16x256 : Shape := ⟨3, ![2, 16, 256]⟩
abbrev S16x4 : Shape := ⟨2, ![16, 4]⟩
abbrev S16x16 : Shape := ⟨2, ![16, 16]⟩
abbrev S16x1 : Shape := ⟨2, ![16, 1]⟩
abbrev S8x256x512 : Shape := ⟨3, ![8, 256, 512]⟩
abbrev S8x131072 : Shape := ⟨2, ![8, 131072]⟩
abbrev S256x512 : Shape := ⟨2, ![256, 512]⟩
abbrev S1x131072 : Shape := ⟨2, ![1, 131072]⟩
abbrev S1x8x131072 : Shape := ⟨3, ![1, 8, 131072]⟩
abbrev S16x131072 : Shape := ⟨2, ![16, 131072]⟩
abbrev S1x16x131072 : Shape := ⟨3, ![1, 16, 131072]⟩
abbrev S16x256x512 : Shape := ⟨3, ![16, 256, 512]⟩
abbrev S16x256 : Shape := ⟨2, ![16, 256]⟩
abbrev S1x16x256 : Shape := ⟨3, ![1, 16, 256]⟩
abbrev S16 : Shape := ⟨1, ![16]⟩
abbrev S8x8x16384 : Shape := ⟨3, ![8, 8, 16384]⟩
abbrev S8x16384 : Shape := ⟨2, ![8, 16384]⟩
abbrev S1x8x16384 : Shape := ⟨3, ![1, 8, 16384]⟩
abbrev S1 : Shape := ⟨1, ![1]⟩
abbrev S1x1x1 : Shape := ⟨3, ![1, 1, 1]⟩
abbrev S16x256x1 : Shape := ⟨3, ![16, 256, 1]⟩
abbrev S16x1x512 : Shape := ⟨3, ![16, 1, 512]⟩
abbrev S1x16x16 : Shape := ⟨3, ![1, 16, 16]⟩
abbrev S_ : Shape := ⟨0, ![]⟩

abbrev nBuf : Space → Nat
  | .hbm => 6
  | .vmem => 16
  | .smem => 4
  | _ => 0

abbrev bufTy : (tb : Table) → Fin (tcTables nBuf tb) → BufTy
  | .hbm, ⟨0, _⟩ => ⟨S4x2x512x512, .f32⟩
  | .hbm, ⟨1, _⟩ => ⟨S4x8x512x512, .f32⟩
  | .hbm, ⟨2, _⟩ => ⟨S4x512x512, .i32⟩
  | .hbm, ⟨3, _⟩ => ⟨S4x1x512x512, .i32⟩
  | .hbm, ⟨4, _⟩ => ⟨S1x1, .f32⟩
  | .hbm, ⟨5, _⟩ => ⟨S_, .f32⟩
  | .local _ .vmem, ⟨0, _⟩ => ⟨S1x8x256x512, .f32⟩
  | .local _ .vmem, ⟨1, _⟩ => ⟨S1x8x256x512, .f32⟩
  | .local _ .vmem, ⟨2, _⟩ => ⟨S1x1x256x512, .i32⟩
  | .local _ .vmem, ⟨3, _⟩ => ⟨S1x1x256x512, .i32⟩
  | .local _ .vmem, ⟨4, _⟩ => ⟨S1x2x256x512, .f32⟩
  | .local _ .vmem, ⟨5, _⟩ => ⟨S1x2x256x512, .f32⟩
  | .local _ .vmem, ⟨6, _⟩ => ⟨S1x256x512, .i32⟩
  | .local _ .vmem, ⟨7, _⟩ => ⟨S1x256x512, .i32⟩
  | .local _ .vmem, ⟨8, _⟩ => ⟨S2x8x131072, .f32⟩
  | .local _ .vmem, ⟨9, _⟩ => ⟨S2x16x131072, .bf16⟩
  | .local _ .vmem, ⟨10, _⟩ => ⟨S16x8, .f32⟩
  | .local _ .vmem, ⟨11, _⟩ => ⟨S16x512, .f32⟩
  | .local _ .vmem, ⟨12, _⟩ => ⟨S2x16x256, .f32⟩
  | .local _ .vmem, ⟨13, _⟩ => ⟨S16x8, .f32⟩
  | .local _ .vmem, ⟨14, _⟩ => ⟨S16x4, .f32⟩
  | .local _ .vmem, ⟨15, _⟩ => ⟨S16x16, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S4x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg4_0 : Ref sig .tc := ⟨.smem, 0, rfl⟩
abbrev cc0_scratch8 : Ref sig .tc := ⟨.smem, 1, rfl⟩
abbrev cc0_scratch9 : Ref sig .tc := ⟨.smem, 2, rfl⟩
abbrev cc0_scratch10 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg1 : BitVec 32 := BitVec.ofNat 32 (i 1).val
  let c0_i32_6 : BitVec 32 := 0#32
  let v13 : BitVec 1 := Scalar.cmpi .eq arg1 c0_i32_6
  let v14 : BitVec 32 := Scalar.extui v13
  let c0_i32_7 : BitVec 32 := 0#32
  let v15 : BitVec 1 := Scalar.cmpi .ne v14 c0_i32_7
  v15

def k0_off1 (i : grid0.Coords) : Fin 3 → Nat :=
  let arg2 : BitVec 32 := BitVec.ofNat 32 (i 2).val
  let v25 : Index := Scalar.indexCast arg2
  let c0_16 : Index := 0#32
  let c0_17 : Index := 0#32
  ![v25.toNat, 0, 0]
def k0_off2 (i : grid0.Coords) : Fin 3 → Nat :=
  let arg2 : BitVec 32 := BitVec.ofNat 32 (i 2).val
  let v35 : Index := Scalar.indexCast arg2
  let c0_18 : Index := 0#32
  let c0_19 : Index := 0#32
  ![v35.toNat, 0, 0]
def k0_off3 (i : grid0.Coords) : Fin 3 → Nat :=
  let arg2 : BitVec 32 := BitVec.ofNat 32 (i 2).val
  let v59 : Index := Scalar.indexCast arg2
  let c0_30 : Index := 0#32
  let c0_31 : Index := 0#32
  ![v59.toNat, 0, 0]
def k0_cond5 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_8 : BitVec 32 := 0#32
  let v18 : BitVec 1 := Scalar.cmpi .ne v17 c0_i32_8
  v18

def k0_off4 (i : grid0.Coords) : Fin 3 → Nat :=
  let arg2 : BitVec 32 := BitVec.ofNat 32 (i 2).val
  let v19 : Index := Scalar.indexCast arg2
  let c0 : Index := 0#32
  let c0_9 : Index := 0#32
  ![v19.toNat, 0, 0]
def k0_off5 (i : grid0.Coords) : Fin 3 → Nat :=
  let arg2 : BitVec 32 := BitVec.ofNat 32 (i 2).val
  let v22 : Index := Scalar.indexCast arg2
  let c0_10 : Index := 0#32
  let c0_11 : Index := 0#32
  ![v22.toNat, 0, 0]
def k0_cond6 (i : grid0.Coords) : BitVec 1 :=
  let arg2 : BitVec 32 := BitVec.ofNat 32 (i 2).val
  let c1_i32_51 : BitVec 32 := 1#32
  let v125 : BitVec 1 := Scalar.cmpi .eq arg2 c1_i32_51
  let v126 : BitVec 32 := Scalar.extui v125
  let c0_i32_52 : BitVec 32 := 0#32
  let v127 : BitVec 1 := Scalar.cmpi .ne v126 c0_i32_52
  v127

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c1_i32_0 : BitVec 32 := 1#32
  let v2 : BitVec 32 := Scalar.muli c1_i32_0 arg1
  let v3 : BitVec 32 := Scalar.addi v1 v2
  let c0_i32 : BitVec 32 := 0#32
  let c0_i32_1 : BitVec 32 := 0#32
  let c0_i32_2 : BitVec 32 := 0#32
  ![arg0.toNat, c0_i32.toNat, v3.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c1_i32_0 : BitVec 32 := 1#32
  let v2 : BitVec 32 := Scalar.muli c1_i32_0 arg1
  let v3 : BitVec 32 := Scalar.addi v1 v2
  let c0_i32 : BitVec 32 := 0#32
  let c0_i32_1 : BitVec 32 := 0#32
  let c0_i32_2 : BitVec 32 := 0#32
  ![arg0.toNat, c0_i32.toNat, v3.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== KernelIdeal.lean ====
variable {F : FTy → Type} [FloatOps F] [Named F]
def κ : String → Option EReal := fun
  | "eps2" => some ((126765058482001 / 1267650600228229401496703205376 : ℝ) : EReal)
  | _ => none
-- ==== ReferenceIdeal.lean ====
abbrev S4x2x512x512 : Shape := ⟨4, ![4, 2, 512, 512]⟩
abbrev S4x8x512x512 : Shape := ⟨4, ![4, 8, 512, 512]⟩
abbrev S4x512x512 : Shape := ⟨3, ![4, 512, 512]⟩
abbrev S4x1x512x512 : Shape := ⟨4, ![4, 1, 512, 512]⟩
abbrev S16 : Shape := ⟨1, ![16]⟩
abbrev S16x1x1 : Shape := ⟨3, ![16, 1, 1]⟩
abbrev S1x16x1x1 : Shape := ⟨4, ![1, 16, 1, 1]⟩
abbrev S4x16x512x512 : Shape := ⟨4, ![4, 16, 512, 512]⟩
abbrev S_ : Shape := ⟨0, ![]⟩
abbrev S4x16x512 : Shape := ⟨3, ![4, 16, 512]⟩
abbrev S4x16 : Shape := ⟨2, ![4, 16]⟩
abbrev S4x16x1x512x512 : Shape := ⟨5, ![4, 16, 1, 512, 512]⟩
abbrev S4x1x8x512x512 : Shape := ⟨5, ![4, 1, 8, 512, 512]⟩
abbrev S4x16x8x512x512 : Shape := ⟨5, ![4, 16, 8, 512, 512]⟩
abbrev S16x8x512x512 : Shape := ⟨4, ![16, 8, 512, 512]⟩
abbrev S4x16x8x512 : Shape := ⟨4, ![4, 16, 8, 512]⟩
abbrev S4x16x8 : Shape := ⟨3, ![4, 16, 8]⟩
abbrev S4x16x1 : Shape := ⟨3, ![4, 16, 1]⟩
abbrev S4x512x512x1 : Shape := ⟨4, ![4, 512, 512, 1]⟩
abbrev S4x512x512x8 : Shape := ⟨4, ![4, 512, 512, 8]⟩
abbrev S4 : Shape := ⟨1, ![4]⟩
abbrev S512 : Shape := ⟨1, ![512]⟩
abbrev S1x512x1 : Shape := ⟨3, ![1, 512, 1]⟩
abbrev S1x1x512 : Shape := ⟨3, ![1, 1, 512]⟩
abbrev S16x512x512 : Shape := ⟨3, ![16, 512, 512]⟩
abbrev S4x16x1x1 : Shape := ⟨4, ![4, 16, 1, 1]⟩
abbrev S1x1x512x1 : Shape := ⟨4, ![1, 1, 512, 1]⟩
abbrev S4x16x512x1 : Shape := ⟨4, ![4, 16, 512, 1]⟩
abbrev S1x1x1x512 : Shape := ⟨4, ![1, 1, 1, 512]⟩
abbrev S4x16x1x512 : Shape := ⟨4, ![4, 16, 1, 512]⟩
abbrev S4x1x16x512x512 : Shape := ⟨5, ![4, 1, 16, 512, 512]⟩
abbrev S4x16x16x512x512 : Shape := ⟨5, ![4, 16, 16, 512, 512]⟩
abbrev S4x16x16x512 : Shape := ⟨4, ![4, 16, 16, 512]⟩
abbrev S4x16x16 : Shape := ⟨3, ![4, 16, 16]⟩
abbrev S16x16 : Shape := ⟨2, ![16, 16]⟩
abbrev S4x16x10 : Shape := ⟨3, ![4, 16, 10]⟩
abbrev S4x16x10x1 : Shape := ⟨4, ![4, 16, 10, 1]⟩
abbrev S1x1x16 : Shape := ⟨3, ![1, 1, 16]⟩
abbrev S1x1x1x16 : Shape := ⟨4, ![1, 1, 1, 16]⟩
abbrev S4x16x10x16 : Shape := ⟨4, ![4, 16, 10, 16]⟩
abbrev S16x1 : Shape := ⟨2, ![16, 1]⟩
abbrev S1x16 : Shape := ⟨2, ![1, 16]⟩
abbrev S4x8x16 : Shape := ⟨3, ![4, 8, 16]⟩
abbrev S4x1x16 : Shape := ⟨3, ![4, 1, 16]⟩
abbrev S4x1x512x512x1 : Shape := ⟨5, ![4, 1, 512, 512, 1]⟩

abbrev nBuf : Space → Nat
  | .hbm => 349
  | .vmem => 0
  | .smem => 0
  | _ => 0

abbrev hbmTy0_0 (i : Nat) : BufTy := match i % 128 with
  | 0 => ⟨S4x2x512x512, .f32⟩
  | 1 => ⟨S4x8x512x512, .f32⟩
  | 2 => ⟨S4x512x512, .i32⟩
  | 3 => ⟨S4x1x512x512, .i32⟩
  | 4 => ⟨S4x512x512, .i32⟩
  | 5 => ⟨S16, .i32⟩
  | 6 => ⟨S4x1x512x512, .i32⟩
  | 7 => ⟨S16x1x1, .i32⟩
  | 8 => ⟨S1x16x1x1, .i32⟩
  | 9 => ⟨S4x16x512x512, .i32⟩
  | 10 => ⟨S4x16x512x512, .i32⟩
  | 11 => ⟨S4x16x512x512, .i1⟩
  | 12 => ⟨S4x16x512x512, .f32⟩
  | 13 => ⟨S_, .f32⟩
  | 14 => ⟨S4x16x512, .f32⟩
  | 15 => ⟨S_, .f32⟩
  | 16 => ⟨S4x16, .f32⟩
  | 17 => ⟨S4x16x1x512x512, .i1⟩
  | 18 => ⟨S4x1x8x512x512, .f32⟩
  | 19 => ⟨S_, .f32⟩
  | 20 => ⟨S_, .f32⟩
  | 21 => ⟨S4x16x8x512x512, .i1⟩
  | 22 => ⟨S4x16x8x512x512, .f32⟩
  | 23 => ⟨S16x8x512x512, .f32⟩
  | 24 => ⟨S4x16x8x512x512, .f32⟩
  | 25 => ⟨S4x16x8x512x512, .f32⟩
  | 26 => ⟨S_, .f32⟩
  | 27 => ⟨S4x16x8x512, .f32⟩
  | 28 => ⟨S_, .f32⟩
  | 29 => ⟨S4x16x8, .f32⟩
  | 30 => ⟨S4x16x1, .f32⟩
  | 31 => ⟨S4x16x8, .f32⟩
  | 32 => ⟨S4x16x8, .f32⟩
  | 33 => ⟨S4x16x8, .f32⟩
  | 34 => ⟨S_, .f32⟩
  | 35 => ⟨S4x16, .f32⟩
  | 36 => ⟨S4x16x1, .f32⟩
  | 37 => ⟨S4x16x1, .f32⟩
  | 38 => ⟨S_, .f32⟩
  | 39 => ⟨S4x16x1, .f32⟩
  | 40 => ⟨S4x16x1, .f32⟩
  | 41 => ⟨S4x16x8, .f32⟩
  | 42 => ⟨S4x16x8, .f32⟩
  | 43 => ⟨S_, .i32⟩
  | 44 => ⟨S4x512x512, .i32⟩
  | 45 => ⟨S4x512x512, .i1⟩
  | 46 => ⟨S_, .i32⟩
  | 47 => ⟨S4x512x512, .i32⟩
  | 48 => ⟨S4x512x512, .i32⟩
  | 49 => ⟨S4x512x512, .i32⟩
  | 50 => ⟨S4x512x512x1, .i32⟩
  | 51 => ⟨S4x512x512x8, .f32⟩
  | 52 => ⟨S4x8x512x512, .f32⟩
  | 53 => ⟨S4x8x512x512, .f32⟩
  | 54 => ⟨S_, .f32⟩
  | 55 => ⟨S4x512x512, .f32⟩
  | 56 => ⟨S4x8x512x512, .f32⟩
  | 57 => ⟨S_, .f32⟩
  | 58 => ⟨S4x512x512, .f32⟩
  | 59 => ⟨S4x512x512, .f32⟩
  | 60 => ⟨S_, .f32⟩
  | 61 => ⟨S4x512x512, .f32⟩
  | 62 => ⟨S4x512x512, .f32⟩
  | 63 => ⟨S4x8x512x512, .f32⟩
  | 64 => ⟨S_, .f32⟩
  | 65 => ⟨S4x512x512, .f32⟩
  | 66 => ⟨S4x512x512, .f32⟩
  | 67 => ⟨S_, .f32⟩
  | 68 => ⟨S4x512x512, .f32⟩
  | 69 => ⟨S4x512x512, .f32⟩
  | 70 => ⟨S4x512x512, .f32⟩
  | 71 => ⟨S4x512x512, .f32⟩
  | 72 => ⟨S_, .f32⟩
  | 73 => ⟨S4x512x512, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S_, .f32⟩
  | 80 => ⟨S4, .f32⟩
  | 81 => ⟨S_, .f32⟩
  | 82 => ⟨S4, .f32⟩
  | 83 => ⟨S4, .f32⟩
  | 84 => ⟨S512, .i32⟩
  | 85 => ⟨S1x512x1, .i32⟩
  | 86 => ⟨S512, .i32⟩
  | 87 => ⟨S1x1x512, .i32⟩
  | 88 => ⟨S_, .i32⟩
  | 89 => ⟨S_, .i32⟩
  | 90 => ⟨S16x512x512, .i32⟩
  | 91 => ⟨S16x512x512, .i32⟩
  | 92 => ⟨S4x16x512x512, .i32⟩
  | 93 => ⟨S4x16x512x512, .i32⟩
  | 94 => ⟨S4x16x512x512, .i32⟩
  | 95 => ⟨S_, .i32⟩
  | 96 => ⟨S4x16x512, .i32⟩
  | 97 => ⟨S_, .i32⟩
  | 98 => ⟨S4x16, .i32⟩
  | 99 => ⟨S_, .i32⟩
  | 100 => ⟨S_, .i32⟩
  | 101 => ⟨S16x512x512, .i32⟩
  | 102 => ⟨S16x512x512, .i32⟩
  | 103 => ⟨S4x16x512x512, .i32⟩
  | 104 => ⟨S4x16x512x512, .i32⟩
  | 105 => ⟨S4x16x512x512, .i32⟩
  | 106 => ⟨S_, .i32⟩
  | 107 => ⟨S4x16x512, .i32⟩
  | 108 => ⟨S_, .i32⟩
  | 109 => ⟨S4x16, .i32⟩
  | 110 => ⟨S_, .i32⟩
  | 111 => ⟨S_, .i32⟩
  | 112 => ⟨S16x512x512, .i32⟩
  | 113 => ⟨S16x512x512, .i32⟩
  | 114 => ⟨S4x16x512x512, .i32⟩
  | 115 => ⟨S4x16x512x512, .i32⟩
  | 116 => ⟨S4x16x512x512, .i32⟩
  | 117 => ⟨S_, .i32⟩
  | 118 => ⟨S4x16x512, .i32⟩
  | 119 => ⟨S_, .i32⟩
  | 120 => ⟨S4x16, .i32⟩
  | 121 => ⟨S_, .i32⟩
  | 122 => ⟨S_, .i32⟩
  | 123 => ⟨S16x512x512, .i32⟩
  | 124 => ⟨S16x512x512, .i32⟩
  | 125 => ⟨S4x16x512x512, .i32⟩
  | 126 => ⟨S4x16x512x512, .i32⟩
  | 127 => ⟨S4x16x512x512, .i32⟩
  | _ => ⟨S4x2x512x512, .f32⟩

abbrev hbmTy0_1 (i : Nat) : BufTy := match i % 128 with
  | 0 => ⟨S_, .i32⟩
  | 1 => ⟨S4x16x512, .i32⟩
  | 2 => ⟨S_, .i32⟩
  | 3 => ⟨S4x16, .i32⟩
  | 4 => ⟨S_, .i32⟩
  | 5 => ⟨S4x16, .i32⟩
  | 6 => ⟨S4x16, .i1⟩
  | 7 => ⟨S_, .i32⟩
  | 8 => ⟨S4x16, .i32⟩
  | 9 => ⟨S4x16, .i32⟩
  | 10 => ⟨S_, .i32⟩
  | 11 => ⟨S_, .i32⟩
  | 12 => ⟨S16, .i32⟩
  | 13 => ⟨S4x16, .i32⟩
  | 14 => ⟨S4x16, .i32⟩
  | 15 => ⟨S4x16x1x1, .i32⟩
  | 16 => ⟨S_, .i32⟩
  | 17 => ⟨S4x16, .i32⟩
  | 18 => ⟨S4x16, .i1⟩
  | 19 => ⟨S_, .i32⟩
  | 20 => ⟨S4x16, .i32⟩
  | 21 => ⟨S4x16, .i32⟩
  | 22 => ⟨S_, .i32⟩
  | 23 => ⟨S_, .i32⟩
  | 24 => ⟨S16, .i32⟩
  | 25 => ⟨S4x16, .i32⟩
  | 26 => ⟨S4x16, .i32⟩
  | 27 => ⟨S4x16x1x1, .i32⟩
  | 28 => ⟨S_, .i32⟩
  | 29 => ⟨S4x16, .i32⟩
  | 30 => ⟨S4x16, .i1⟩
  | 31 => ⟨S_, .i32⟩
  | 32 => ⟨S4x16, .i32⟩
  | 33 => ⟨S4x16, .i32⟩
  | 34 => ⟨S_, .i32⟩
  | 35 => ⟨S_, .i32⟩
  | 36 => ⟨S16, .i32⟩
  | 37 => ⟨S4x16, .i32⟩
  | 38 => ⟨S4x16, .i32⟩
  | 39 => ⟨S4x16x1x1, .i32⟩
  | 40 => ⟨S_, .i32⟩
  | 41 => ⟨S4x16, .i32⟩
  | 42 => ⟨S4x16, .i1⟩
  | 43 => ⟨S_, .i32⟩
  | 44 => ⟨S4x16, .i32⟩
  | 45 => ⟨S4x16, .i32⟩
  | 46 => ⟨S_, .i32⟩
  | 47 => ⟨S_, .i32⟩
  | 48 => ⟨S16, .i32⟩
  | 49 => ⟨S4x16, .i32⟩
  | 50 => ⟨S4x16, .i32⟩
  | 51 => ⟨S4x16x1x1, .i32⟩
  | 52 => ⟨S1x1x512x1, .i32⟩
  | 53 => ⟨S4x16x512x1, .i32⟩
  | 54 => ⟨S4x16x512x1, .i32⟩
  | 55 => ⟨S4x16x512x1, .i1⟩
  | 56 => ⟨S1x1x512x1, .i32⟩
  | 57 => ⟨S4x16x512x1, .i32⟩
  | 58 => ⟨S4x16x512x1, .i32⟩
  | 59 => ⟨S4x16x512x1, .i1⟩
  | 60 => ⟨S4x16x512x1, .i1⟩
  | 61 => ⟨S1x1x1x512, .i32⟩
  | 62 => ⟨S4x16x1x512, .i32⟩
  | 63 => ⟨S4x16x1x512, .i32⟩
  | 64 => ⟨S4x16x1x512, .i1⟩
  | 65 => ⟨S4x16x512x512, .i1⟩
  | 66 => ⟨S4x16x512x512, .i1⟩
  | 67 => ⟨S4x16x512x512, .i1⟩
  | 68 => ⟨S1x1x1x512, .i32⟩
  | 69 => ⟨S4x16x1x512, .i32⟩
  | 70 => ⟨S4x16x1x512, .i32⟩
  | 71 => ⟨S4x16x1x512, .i1⟩
  | 72 => ⟨S4x16x512x512, .i1⟩
  | 73 => ⟨S4x16x512x512, .i1⟩
  | 74 => ⟨S4x16x1x512x512, .i1⟩
  | 75 => ⟨S4x1x16x512x512, .i1⟩
  | 76 => ⟨S4x16x16x512x512, .i1⟩
  | 77 => ⟨S4x16x16x512x512, .i1⟩
  | 78 => ⟨S4x16x16x512x512, .i1⟩
  | 79 => ⟨S_, .i1⟩
  | 80 => ⟨S4x16x16x512, .i1⟩
  | 81 => ⟨S_, .i1⟩
  | 82 => ⟨S4x16x16, .i1⟩
  | 83 => ⟨S_, .i32⟩
  | 84 => ⟨S_, .i32⟩
  | 85 => ⟨S16x16, .i32⟩
  | 86 => ⟨S16x16, .i32⟩
  | 87 => ⟨S4x16x16, .i32⟩
  | 88 => ⟨S4x16x16, .i32⟩
  | 89 => ⟨S4x16x16, .i32⟩
  | 90 => ⟨S4x16x16, .i32⟩
  | 91 => ⟨S4x16x16, .i32⟩
  | 92 => ⟨S4x16x16, .i32⟩
  | 93 => ⟨S4x16x10, .i32⟩
  | 94 => ⟨S4x16x10x1, .i32⟩
  | 95 => ⟨S1x1x16, .i32⟩
  | 96 => ⟨S1x1x1x16, .i32⟩
  | 97 => ⟨S4x16x10x16, .i32⟩
  | 98 => ⟨S4x16x10x16, .i32⟩
  | 99 => ⟨S4x16x10x16, .i1⟩
  | 100 => ⟨S_, .i32⟩
  | 101 => ⟨S4x16x10x1, .i32⟩
  | 102 => ⟨S4x16x10x1, .i1⟩
  | 103 => ⟨S4x16x10x16, .i1⟩
  | 104 => ⟨S4x16x10x16, .i1⟩
  | 105 => ⟨S_, .i1⟩
  | 106 => ⟨S4x16x16, .i1⟩
  | 107 => ⟨S4x16x16, .f32⟩
  | 108 => ⟨S16x1, .i32⟩
  | 109 => ⟨S_, .i32⟩
  | 110 => ⟨S16x1, .i32⟩
  | 111 => ⟨S16x1, .i1⟩
  | 112 => ⟨S_, .i32⟩
  | 113 => ⟨S16, .i32⟩
  | 114 => ⟨S16, .i1⟩
  | 115 => ⟨S1x16, .i1⟩
  | 116 => ⟨S16x16, .i1⟩
  | 117 => ⟨S16x16, .i1⟩
  | 118 => ⟨S16x16, .i1⟩
  | 119 => ⟨S16x1, .i32⟩
  | 120 => ⟨S_, .i32⟩
  | 121 => ⟨S16x1, .i32⟩
  | 122 => ⟨S16x1, .i1⟩
  | 123 => ⟨S_, .i32⟩
  | 124 => ⟨S16, .i32⟩
  | 125 => ⟨S16, .i1⟩
  | 126 => ⟨S1x16, .i1⟩
  | 127 => ⟨S16x16, .i1⟩
  | _ => ⟨S4x2x512x512, .f32⟩

abbrev hbmTy0_2 (i : Nat) : BufTy := match i % 128 with
  | 0 => ⟨S16x16, .i1⟩
  | 1 => ⟨S16x16, .i1⟩
  | 2 => ⟨S_, .f32⟩
  | 3 => ⟨S_, .f32⟩
  | 4 => ⟨S16x16, .f32⟩
  | 5 => ⟨S4x16x16, .i1⟩
  | 6 => ⟨S4x16x16, .f32⟩
  | 7 => ⟨S4x16x16, .f32⟩
  | 8 => ⟨S_, .f32⟩
  | 9 => ⟨S_, .f32⟩
  | 10 => ⟨S16x16, .f32⟩
  | 11 => ⟨S4x16x16, .i1⟩
  | 12 => ⟨S4x16x16, .f32⟩
  | 13 => ⟨S4x16x16, .f32⟩
  | 14 => ⟨S4x16x8, .f32⟩
  | 15 => ⟨S_, .f32⟩
  | 16 => ⟨S4x16, .f32⟩
  | 17 => ⟨S4x16, .f32⟩
  | 18 => ⟨S_, .f32⟩
  | 19 => ⟨S4x16, .f32⟩
  | 20 => ⟨S4x16, .f32⟩
  | 21 => ⟨S4x8x16, .f32⟩
  | 22 => ⟨S4x16x16, .f32⟩
  | 23 => ⟨S4x16x1, .f32⟩
  | 24 => ⟨S4x1x16, .f32⟩
  | 25 => ⟨S4x16x16, .f32⟩
  | 26 => ⟨S4x16x16, .f32⟩
  | 27 => ⟨S4x16x16, .f32⟩
  | 28 => ⟨S4x16x16, .f32⟩
  | 29 => ⟨S4x16x16, .f32⟩
  | 30 => ⟨S4x16x16, .f32⟩
  | 31 => ⟨S_, .f32⟩
  | 32 => ⟨S4x16x16, .f32⟩
  | 33 => ⟨S4x16x16, .f32⟩
  | 34 => ⟨S4x16x16, .f32⟩
  | 35 => ⟨S_, .f32⟩
  | 36 => ⟨S4, .f32⟩
  | 37 => ⟨S_, .f32⟩
  | 38 => ⟨S4, .f32⟩
  | 39 => ⟨S4, .f32⟩
  | 40 => ⟨S_, .f32⟩
  | 41 => ⟨S4x512x512, .f32⟩
  | 42 => ⟨S_, .f32⟩
  | 43 => ⟨S4x512x512, .f32⟩
  | 44 => ⟨S4x512x512, .f32⟩
  | 45 => ⟨S4x1x512x512, .f32⟩
  | 46 => ⟨S4x2x512x512, .f32⟩
  | 47 => ⟨S4x2x512x512, .f32⟩
  | 48 => ⟨S4x2x512x512, .f32⟩
  | 49 => ⟨S_, .f32⟩
  | 50 => ⟨S4x512x512, .f32⟩
  | 51 => ⟨S4x1x512x512, .f32⟩
  | 52 => ⟨S4x1x512x512, .f32⟩
  | 53 => ⟨S4x2x512x512, .f32⟩
  | 54 => ⟨S4x2x512x512, .f32⟩
  | 55 => ⟨S4x1x512x512, .i32⟩
  | 56 => ⟨S_, .i32⟩
  | 57 => ⟨S4x1x512x512, .i32⟩
  | 58 => ⟨S4x1x512x512, .i1⟩
  | 59 => ⟨S_, .i32⟩
  | 60 => ⟨S4x1x512x512, .i32⟩
  | 61 => ⟨S4x1x512x512, .i32⟩
  | 62 => ⟨S4x1x512x512, .i32⟩
  | 63 => ⟨S4x1x512x512x1, .i32⟩
  | 64 => ⟨S4x1x512x512, .f32⟩
  | 65 => ⟨S4x512x512, .f32⟩
  | 66 => ⟨S4x512x512, .f32⟩
  | 67 => ⟨S_, .f32⟩
  | 68 => ⟨S4x512x512, .f32⟩
  | 69 => ⟨S4x512x512, .f32⟩
  | 70 => ⟨S4x512x512, .f32⟩
  | 71 => ⟨S4x512x512, .f32⟩
  | 72 => ⟨S4x512x512, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | _ => ⟨S4x2x512x512, .f32⟩

abbrev hbmTy (i : Nat) : BufTy := match i / 128 with
  | 0 => hbmTy0_0 i
  | 1 => hbmTy0_1 i
  | 2 => hbmTy0_2 i
  | _ => ⟨S4x2x512x512, .f32⟩

abbrev bufTy : (tb : Table) → Fin (tcTables nBuf tb) → BufTy
  | .hbm, ⟨i, _⟩ => hbmTy i
  | _, _ => ⟨S4x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_16 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_c_18 : Ref sig .tc := ⟨.hbm, 97, rfl⟩
abbrev main_v63 : Ref sig .tc := ⟨.hbm, 98, rfl⟩
abbrev main_c_19 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v64 : Ref sig .tc := ⟨.hbm, 105, rfl⟩
abbrev main_c_20 : Ref sig .tc := ⟨.hbm, 106, rfl⟩
abbrev main_v65 : Ref sig .tc := ⟨.hbm, 107, rfl⟩
abbrev main_c_21 : Ref sig .tc := ⟨.hbm, 108, rfl⟩
abbrev main_v66 : Ref sig .tc := ⟨.hbm, 109, rfl⟩
abbrev main_c_22 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v67 : Ref sig .tc := ⟨.hbm, 116, rfl⟩
abbrev main_c_23 : Ref sig .tc := ⟨.hbm, 117, rfl⟩
abbrev main_v68 : Ref sig .tc := ⟨.hbm, 118, rfl⟩
abbrev main_c_24 : Ref sig .tc := ⟨.hbm, 119, rfl⟩
abbrev main_v69 : Ref sig .tc := ⟨.hbm, 120, rfl⟩
abbrev main_c_25 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v70 : Ref sig .tc := ⟨.hbm, 127, rfl⟩
abbrev main_c_26 : Ref sig .tc := ⟨.hbm, 128, rfl⟩
abbrev main_v71 : Ref sig .tc := ⟨.hbm, 129, rfl⟩
abbrev main_c_27 : Ref sig .tc := ⟨.hbm, 130, rfl⟩
abbrev main_v72 : Ref sig .tc := ⟨.hbm, 131, rfl⟩
abbrev main_c_28 : Ref sig .tc := ⟨.hbm, 132, rfl⟩
abbrev main_v73 : Ref sig .tc := ⟨.hbm, 133, rfl⟩
abbrev main_v74 : Ref sig .tc := ⟨.hbm, 134, rfl⟩
abbrev main_c_29 : Ref sig .tc := ⟨.hbm, 135, rfl⟩
abbrev main_v75 : Ref sig .tc := ⟨.hbm, 136, rfl⟩
abbrev main_v76 : Ref sig .tc := ⟨.hbm, 137, rfl⟩
abbrev main_c_30 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v77 : Ref sig .tc := ⟨.hbm, 142, rfl⟩
abbrev main_v78 : Ref sig .tc := ⟨.hbm, 143, rfl⟩
abbrev main_c_31 : Ref sig .tc := ⟨.hbm, 144, rfl⟩
abbrev main_v79 : Ref sig .tc := ⟨.hbm, 145, rfl⟩
abbrev main_v80 : Ref sig .tc := ⟨.hbm, 146, rfl⟩
abbrev main_c_32 : Ref sig .tc := ⟨.hbm, 147, rfl⟩
abbrev main_v81 : Ref sig .tc := ⟨.hbm, 148, rfl⟩
abbrev main_v82 : Ref sig .tc := ⟨.hbm, 149, rfl⟩
abbrev main_c_33 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v83 : Ref sig .tc := ⟨.hbm, 154, rfl⟩
abbrev main_v84 : Ref sig .tc := ⟨.hbm, 155, rfl⟩
abbrev main_c_34 : Ref sig .tc := ⟨.hbm, 156, rfl⟩
abbrev main_v85 : Ref sig .tc := ⟨.hbm, 157, rfl⟩
abbrev main_v86 : Ref sig .tc := ⟨.hbm, 158, rfl⟩
abbrev main_c_35 : Ref sig .tc := ⟨.hbm, 159, rfl⟩
abbrev main_v87 : Ref sig .tc := ⟨.hbm, 160, rfl⟩
abbrev main_v88 : Ref sig .tc := ⟨.hbm, 161, rfl⟩
abbrev main_c_36 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v89 : Ref sig .tc := ⟨.hbm, 166, rfl⟩
abbrev main_v90 : Ref sig .tc := ⟨.hbm, 167, rfl⟩
abbrev main_c_37 : Ref sig .tc := ⟨.hbm, 168, rfl⟩
abbrev main_v91 : Ref sig .tc := ⟨.hbm, 169, rfl⟩
abbrev main_v92 : Ref sig .tc := ⟨.hbm, 170, rfl⟩
abbrev main_c_38 : Ref sig .tc := ⟨.hbm, 171, rfl⟩
abbrev main_v93 : Ref sig .tc := ⟨.hbm, 172, rfl⟩
abbrev main_v94 : Ref sig .tc := ⟨.hbm, 173, rfl⟩
abbrev main_c_39 : Ref sig .tc := ⟨.hbm, 174, rfl⟩
abbrev main_call8_v0 : Ref sig .tc := ⟨.hbm, 175, rfl⟩
abbrev main_call8_v1 : Ref sig .tc := ⟨.hbm, 176, rfl⟩
abbrev main_call8_v2 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_c_40 : Ref sig .tc := ⟨.hbm, 207, rfl⟩
abbrev main_v124 : Ref sig .tc := ⟨.hbm, 208, rfl⟩
abbrev main_c_41 : Ref sig .tc := ⟨.hbm, 209, rfl⟩
abbrev main_v125 : Ref sig .tc := ⟨.hbm, 210, rfl⟩
abbrev main_c_42 : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_c_43 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_c_44 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_c_45 : Ref sig .tc := ⟨.hbm, 237, rfl⟩
abbrev main_v144 : Ref sig .tc := ⟨.hbm, 238, rfl⟩
abbrev main_v145 : Ref sig .tc := ⟨.hbm, 239, rfl⟩
abbrev main_c_46 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_c_47 : Ref sig .tc := ⟨.hbm, 248, rfl⟩
abbrev main_v153 : Ref sig .tc := ⟨.hbm, 249, rfl⟩
abbrev main_v154 : Ref sig .tc := ⟨.hbm, 250, rfl⟩
abbrev main_c_48 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_49 : Ref sig .tc := ⟨.hbm, 258, rfl⟩
abbrev main_call11_v0 : Ref sig .tc := ⟨.hbm, 259, rfl⟩
abbrev main_call11_v1 : Ref sig .tc := ⟨.hbm, 260, rfl⟩
abbrev main_call11_v2 : Ref sig .tc := ⟨.hbm, 261, rfl⟩
abbrev main_call11_v3 : Ref sig .tc := ⟨.hbm, 262, rfl⟩
abbrev main_v161 : Ref sig .tc := ⟨.hbm, 263, rfl⟩
abbrev main_cst_50 : Ref sig .tc := ⟨.hbm, 264, rfl⟩
abbrev main_call12_v0 : Ref sig .tc := ⟨.hbm, 265, rfl⟩
abbrev main_call12_v1 : Ref sig .tc := ⟨.hbm, 266, rfl⟩
abbrev main_call12_v2 : Ref sig .tc := ⟨.hbm, 267, rfl⟩
abbrev main_call12_v3 : Ref sig .tc := ⟨.hbm, 268, rfl⟩
abbrev main_v162 : Ref sig .tc := ⟨.hbm, 269, rfl⟩
abbrev main_v163 : Ref sig .tc := ⟨.hbm, 270, rfl⟩
abbrev main_cst_51 : Ref sig .tc := ⟨.hbm, 271, rfl⟩
abbrev main_v164 : Ref sig .tc := ⟨.hbm, 272, rfl⟩
abbrev main_v165 : Ref sig .tc := ⟨.hbm, 273, rfl⟩
abbrev main_cst_52 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_cst_53 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_cst_54 : Ref sig .tc := ⟨.hbm, 291, rfl⟩
abbrev main_v181 : Ref sig .tc := ⟨.hbm, 292, rfl⟩
abbrev main_cst_55 : Ref sig .tc := ⟨.hbm, 293, rfl⟩
abbrev main_v182 : Ref sig .tc := ⟨.hbm, 294, rfl⟩
abbrev main_v183 : Ref sig .tc := ⟨.hbm, 295, rfl⟩
abbrev main_call13_cst : Ref sig .tc := ⟨.hbm, 296, rfl⟩
abbrev main_call13_v0 : Ref sig .tc := ⟨.hbm, 297, rfl⟩
abbrev main_call13_cst_0 : Ref sig .tc := ⟨.hbm, 298, rfl⟩
abbrev main_call13_v1 : Ref sig .tc := ⟨.hbm, 299, rfl⟩
abbrev main_call13_v2 : Ref sig .tc := ⟨.hbm, 300, rfl⟩
abbrev main_call13_v3 : Ref sig .tc := ⟨.hbm, 301, rfl⟩
abbrev main_call13_v4 : Ref sig .tc := ⟨.hbm, 302, rfl⟩
abbrev main_call13_v5 : Ref sig .tc := ⟨.hbm, 303, rfl⟩
abbrev main_call13_v6 : Ref sig .tc := ⟨.hbm, 304, rfl⟩
abbrev main_call13_cst_1 : Ref sig .tc := ⟨.hbm, 305, rfl⟩
abbrev main_call13_v7 : Ref sig .tc := ⟨.hbm, 306, rfl⟩
abbrev main_call13_v8 : Ref sig .tc := ⟨.hbm, 307, rfl⟩
abbrev main_call13_v9 : Ref sig .tc := ⟨.hbm, 308, rfl⟩
abbrev main_call13_v10 : Ref sig .tc := ⟨.hbm, 309, rfl⟩
abbrev main_v184 : Ref sig .tc := ⟨.hbm, 310, rfl⟩
abbrev main_v185 : Ref sig .tc := ⟨.hbm, 311, rfl⟩
abbrev main_call14_c : Ref sig .tc := ⟨.hbm, 312, rfl⟩
abbrev main_call14_v0 : Ref sig .tc := ⟨.hbm, 313, rfl⟩
abbrev main_call14_v1 : Ref sig .tc := ⟨.hbm, 314, rfl⟩
abbrev main_call14_c_0 : Ref sig .tc := ⟨.hbm, 315, rfl⟩
abbrev main_call14_v2 : Ref sig .tc := ⟨.hbm, 316, rfl⟩
abbrev main_call14_v3 : Ref sig .tc := ⟨.hbm, 317, rfl⟩
abbrev main_call14_v4 : Ref sig .tc := ⟨.hbm, 318, rfl⟩
abbrev main_call14_v5 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_cst_56 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_cst_57 : Ref sig .tc := ⟨.hbm, 329, rfl⟩
abbrev main_v194 : Ref sig .tc := ⟨.hbm, 330, rfl⟩
abbrev main_cst_58 : Ref sig .tc := ⟨.hbm, 331, rfl⟩
abbrev main_v195 : Ref sig .tc := ⟨.hbm, 332, rfl⟩
abbrev main_cst_59 : Ref sig .tc := ⟨.hbm, 333, rfl⟩
abbrev main_v196 : Ref sig .tc := ⟨.hbm, 334, rfl⟩
abbrev main_cst_60 : Ref sig .tc := ⟨.hbm, 335, rfl⟩
abbrev main_v197 : Ref sig .tc := ⟨.hbm, 336, rfl⟩
abbrev main_cst_61 : Ref sig .tc := ⟨.hbm, 337, rfl⟩
abbrev main_v198 : Ref sig .tc := ⟨.hbm, 338, rfl⟩
abbrev main_cst_62 : Ref sig .tc := ⟨.hbm, 339, rfl⟩
abbrev main_v199 : Ref sig .tc := ⟨.hbm, 340, rfl⟩
abbrev main_v200 : Ref sig .tc := ⟨.hbm, 341, rfl⟩
abbrev main_cst_63 : Ref sig .tc := ⟨.hbm, 342, rfl⟩
abbrev main_v201 : Ref sig .tc := ⟨.hbm, 343, rfl⟩
abbrev main_cst_64 : Ref sig .tc := ⟨.hbm, 344, rfl⟩
abbrev main_v202 : Ref sig .tc := ⟨.hbm, 345, rfl⟩
abbrev main_cst_65 : Ref sig .tc := ⟨.hbm, 346, rfl⟩
abbrev main_v203 : Ref sig .tc := ⟨.hbm, 347, rfl⟩
abbrev main_v204 : Ref sig .tc := ⟨.hbm, 348, rfl⟩

abbrev nD : Nat := 1
abbrev τ : Topo := Topo.v7x

variable {F : FTy → Type} [FloatOps F]
-- ==== Proof.KernelIdealRun.Runs.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v1}
/-- The lines after the region write the named result alone. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`the frame statement`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePostR.arr_in h c 2 rfl).trans ((hA c 2).trans (V_main_arg0 m c)),
      (Pipeline.RDat.FramePostR.arr_in h c 0 rfl).trans ((hA c 0).trans (V_main_arg1 m c)),
      (Pipeline.RDat.FramePostR.arr_in h c 3 rfl).trans ((hA c 3).trans (V_main_arg2 m c)),
      (Pipeline.RDat.FramePostR.arr_in h c 1 rfl).trans ((hA c 1).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_1, e0, e1, e2]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have i1 = 0 — by arithmetic of the point. -/
theorem hcond0_2 : ∀ t : Fin cfg0.N, cond0_2 (grid0.coords t) ↔ t.val / 2 % 2 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_2, k0_cond3, e0, e1, e2]
    word_cmp
   : ∀ t : Fin grid0.N, cond0_2 (grid0.coords t) ↔ t.val / 2 % 2 = 0)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 2).val) 1#32)) 0#32) = 1#1
/-- It holds at the points ≡ 1 (mod 2) — by arithmetic of the point. -/
theorem hcond0_3 : ∀ t : Fin cfg0.N, cond0_3 (grid0.coords t) ↔ t.val % 2 = 1 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_3, e0, e1, e2]
    word_cmp
   : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at the points whose coordinates have i1 = 1 — by arithmetic of the point. -/
theorem hcond0_4 : ∀ t : Fin cfg0.N, cond0_4 (grid0.coords t) ↔ t.val / 2 % 2 = 1 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_4, k0_cond5, e0, e1, e2]
    word_cmp
   : ∀ t : Fin grid0.N, cond0_4 (grid0.coords t) ↔ t.val / 2 % 2 = 1)

/-- The condition of the body's `scf.if` 5 (`k0_h6`), from the grid coordinates (the skeleton's scalar
    chain substituted). -/
abbrev cond0_5 (i : grid0.Coords) : Prop := k0_cond6 i = 1#1
/-- It holds at the points ≡ 1 (mod 2) — by arithmetic of the point. -/
theorem hcond0_5 : ∀ t : Fin cfg0.N, cond0_5 (grid0.coords t) ↔ t.val % 2 = 1 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 2 % 2 := Pipeline.Grid.coords_val t 1 (by decide) rfl
    have e2 : (grid0.coords t 2).val = t.val / 1 % 2 := Pipeline.Grid.coords_val t 2 (by decide) rfl
    simp only [cond0_5, k0_cond6, e0, e1, e2]
    word_cmp
   : ∀ t : Fin grid0.N, cond0_5 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x256x512 .f32 := win0_0.stage (cfg0.slots t 0)
/-- Window 0's staging memref is a whole buffer. -/
abbrev hs0_0 (t : Fin cfg0.N) : (ms0_0 t).IsWhole := hstage0_0 ((cfg0.slots t 0).cast nbuf0_0)
/-- Window 1's staging memref at a point. -/
abbrev ms0_1 (t : Fin cfg0.N) : Memref sig .tc .vmem S1x1x256x512 .i32 := win0_1.stage (cfg0.slots t 1)
/-- Window 1's staging memref is a whole buffer. -/
abbrev hs0_1 (t : Fin cfg0.N) : (ms0_1 t).IsWhole := hstage0_1 ((cfg0.slots t 1).cast nbuf0_1)
/-- Window 2's staging memref at a point. -/
abbrev ms0_2 (t : Fin cfg0.N) : Memref sig .tc .vmem S1x2x256x512 .f32 := win0_2.stage (cfg0.slots t 2)
/-- Window 2's staging memref is a whole buffer. -/
abbrev hs0_2 (t : Fin cfg0.N) : (ms0_2 t).IsWhole := hstage0_2 ((cfg0.slots t 2).cast nbuf0_2)
/-- Window 3's staging memref at a point. -/
abbrev ms0_3 (t : Fin cfg0.N) : Memref sig .tc .vmem S1x256x512 .i32 := win0_3.stage (cfg0.slots t 3)
/-- Window 3's staging memref is a whole buffer. -/
abbrev hs0_3 (t : Fin cfg0.N) : (ms0_3 t).IsWhole := hstage0_3 ((cfg0.slots t 3).cast nbuf0_3)
/-- Window 4's staging memref at a point. -/
abbrev ms0_4 (t : Fin cfg0.N) : Memref sig .tc .smem S1x1 .f32 := win0_4.stage (cfg0.slots t 4)
/-- Window 4's staging memref is a whole buffer. -/
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8x131072 .f32 := Memref.whole cc0_scratch0
/-- The whole buffer of scratch operand 1. -/
abbrev scM0_1 : Memref sig .tc .vmem S2x16x131072 .bf16 := Memref.whole cc0_scratch1
/-- The whole buffer of scratch operand 2. -/
abbrev scM0_2 : Memref sig .tc .vmem S16x8 .f32 := Memref.whole cc0_scratch2
/-- The whole buffer of scratch operand 3. -/
abbrev scM0_3 : Memref sig .tc .vmem S16x512 .f32 := Memref.whole cc0_scratch3
/-- The whole buffer of scratch operand 4. -/
abbrev scM0_4 : Memref sig .tc .vmem S2x16x256 .f32 := Memref.whole cc0_scratch4
/-- The whole buffer of scratch operand 5. -/
abbrev scM0_5 : Memref sig .tc .vmem S16x8 .f32 := Memref.whole cc0_scratch5
/-- The whole buffer of scratch operand 6. -/
abbrev scM0_6 : Memref sig .tc .vmem S16x4 .f32 := Memref.whole cc0_scratch6
/-- The whole buffer of scratch operand 7. -/
abbrev scM0_7 : Memref sig .tc .vmem S16x16 .f32 := Memref.whole cc0_scratch7
/-- The whole buffer of scratch operand 8. -/
abbrev scM0_8 : Memref sig .tc .smem S1x1 .f32 := Memref.whole cc0_scratch8
/-- The whole buffer of scratch operand 9. -/
abbrev scM0_9 : Memref sig .tc .smem S1x1 .f32 := Memref.whole cc0_scratch9
/-- The whole buffer of scratch operand 10. -/
abbrev scM0_10 : Memref sig .tc .smem S1x1 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Hand

end
-- ==== Proof.KernelIdealRun.RunA.lean ====
module

public import proofs.«01_k».proof.Proof.KernelIdealRun.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's run in case A (the first point: batch 0, phase 0, strip 0), on whole staging memrefs holding named contents: the pieces the body's
    stores leave in each scratch it stores into (the witness the run finds), with the proof that the
    body ends holding every other buffer as it was and those buffers with their pieces written over what they held. -/
noncomputable def runA (c : Dev nD) (i : grid0.Coords) (arg3 : Memref sig .tc .vmem S1x8x256x512 .f32) (harg3 : arg3.IsWhole) (arg4 : Memref sig .tc .vmem S1x1x256x512 .i32) (harg4 : arg4.IsWhole) (arg5 : Memref sig .tc .vmem S1x2x256x512 .f32) (harg5 : arg5.IsWhole) (arg6 : Memref sig .tc .vmem S1x256x512 .i32) (harg6 : arg6.IsWhole) (arg7 : Memref sig .tc .smem S1x1 .f32) (harg7 : arg7.IsWhole) (arg8 : Memref sig .tc .vmem S2x8x131072 .f32) (harg8 : arg8.IsWhole) (arg9 : Memref sig .tc .vmem S2x16x131072 .bf16) (harg9 : arg9.IsWhole) (arg10 : Memref sig .tc .vmem S16x8 .f32) (harg10 : arg10.IsWhole) (arg11 : Memref sig .tc .vmem S16x512 .f32) (harg11 : arg11.IsWhole) (arg12 : Memref sig .tc .vmem S2x16x256 .f32) (harg12 : arg12.IsWhole) (arg13 : Memref sig .tc .vmem S16x8 .f32) (harg13 : arg13.IsWhole) (arg14 : Memref sig .tc .vmem S16x4 .f32) (harg14 : arg14.IsWhole) (arg15 : Memref sig .tc .vmem S16x16 .f32) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (hc0 : cond0_0 i) (hc1 : cond0_1 i) (hc2 : cond0_2 i) (hc3 : ¬cond0_3 i) (hc4 : ¬cond0_4 i)
    (x0 : Vec F S1x8x256x512 .f32) (x1 : Vec F S1x1x256x512 .i32) (x2 : Vec F S1x2x256x512 .f32) (x3 : Vec F S1x256x512 .i32) (xi4 : Vec F S1x1 .f32) (xs0 : Vec F S2x8x131072 .f32) (xs1 : Vec F S2x16x131072 .bf16) (xs2 : Vec F S16x8 .f32) (xs3 : Vec F S16x512 .f32) (xs4 : Vec F S2x16x256 .f32) (xs5 : Vec F S16x8 .f32) (xs6 : Vec F S16x4 .f32) (xs7 : Vec F S16x16 .f32) (xs8 : Vec F S1x1 .f32) (xs9 : Vec F S1x1 .f32) (xs10 : Vec F S1x1 .f32) :
    Σ' (LS0 : List (View.Piece (Elt F) S2x8x131072 .f32)), Σ' (LS1 : List (View.Piece (Elt F) S2x16x131072 .bf16)), Σ' (LS2 : List (View.Piece (Elt F) S16x8 .f32)), Σ' (LS3 : List (View.Piece (Elt F) S16x512 .f32)), Σ' (LS4 : List (View.Piece (Elt F) S2x16x256 .f32)), Σ' (LS7 : List (View.Piece (Elt F) S16x16 .f32)), Σ' (LS8 : List (View.Piece (Elt F) S1x1 .f32)), Σ' (LS9 : List (View.Piece (Elt F) S1x1 .f32)), { LS10 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ owns (c : Thread nD τ) arg15 fullShare xs7 ∗ owns (c : Thread nD τ) arg16 fullShare xs8 ∗ owns (c : Thread nD τ) arg17 fullShare xs9 ∗ owns (c : Thread nD τ) arg18 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3) ∗ (arg12.view.loc (c : Thread nD τ) ↦[arg12.view.set]{fullShare} arg12.view.writes (Elt F) (harg12.unread xs4) LS4) ∗ owns (c : Thread nD τ) arg13 fullShare xs5 ∗ owns (c : Thread nD τ) arg14 fullShare xs6 ∗ (arg15.view.loc (c : Thread nD τ) ↦[arg15.view.set]{fullShare} arg15.view.writes (Elt F) (harg15.unread xs7) LS7) ∗ (arg16.view.loc (c : Thread nD τ) ↦[arg16.view.set]{fullShare} arg16.view.writes (Elt F) (harg16.unread xs8) LS8) ∗ (arg17.view.loc (c : Thread nD τ) ↦[arg17.view.set]{fullShare} arg17.view.writes (Elt F) (harg17.unread xs9) LS9) ∗ (arg18.view.loc (c : Thread nD τ) ↦[arg18.view.set]{fullShare} arg18.view.writes (Elt F) (harg18.unread xs10) LS10)) -∗ K ⟨⟩))
          ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun E K => ?run⟩
  case run =>
    simp only [cc0__body_eq_skeleton]; unfold cc0__body_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexact H5
    isplitl [H6]
    · iexact H6
    isplitl [H7]
    · iexact H7
    isplitl [H8]
    · iexact H8
    isplitl [H9]
    · iexact H9
    isplitl [H10]
    · iexists _; isplitr; · ipureintro; exact harg13.read_unread _
      iexact H10
    isplitl [H11]
    · iexists _; isplitr; · ipureintro; exact harg14.read_unread _
      iexact H11
    isplitl [H12]
    · iexact H12
    isplitl [H13]
    · iexact H13
    isplitl [H14]
    · iexact H14
    iexact H15

end Cert.KernelIdeal.Hand

end
-- ==== Proof.KernelIdealRun.RunB.lean ====
module

public import proofs.«01_k».proof.Proof.KernelIdealRun.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's run in case B (phase 0, strip 1), on whole staging memrefs holding named contents: the pieces the body's
    stores leave in each scratch it stores into (the witness the run finds), with the proof that the
    body ends holding every other buffer as it was and those buffers with their pieces written over what they held. -/
noncomputable def runB (c : Dev nD) (i : grid0.Coords) (arg3 : Memref sig .tc .vmem S1x8x256x512 .f32) (harg3 : arg3.IsWhole) (arg4 : Memref sig .tc .vmem S1x1x256x512 .i32) (harg4 : arg4.IsWhole) (arg5 : Memref sig .tc .vmem S1x2x256x512 .f32) (harg5 : arg5.IsWhole) (arg6 : Memref sig .tc .vmem S1x256x512 .i32) (harg6 : arg6.IsWhole) (arg7 : Memref sig .tc .smem S1x1 .f32) (harg7 : arg7.IsWhole) (arg8 : Memref sig .tc .vmem S2x8x131072 .f32) (harg8 : arg8.IsWhole) (arg9 : Memref sig .tc .vmem S2x16x131072 .bf16) (harg9 : arg9.IsWhole) (arg10 : Memref sig .tc .vmem S16x8 .f32) (harg10 : arg10.IsWhole) (arg11 : Memref sig .tc .vmem S16x512 .f32) (harg11 : arg11.IsWhole) (arg12 : Memref sig .tc .vmem S2x16x256 .f32) (harg12 : arg12.IsWhole) (arg13 : Memref sig .tc .vmem S16x8 .f32) (harg13 : arg13.IsWhole) (arg14 : Memref sig .tc .vmem S16x4 .f32) (harg14 : arg14.IsWhole) (arg15 : Memref sig .tc .vmem S16x16 .f32) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (hc0 : ¬cond0_0 i) (hc1 : ¬cond0_1 i) (hc2 : cond0_2 i) (hc3 : cond0_3 i) (hc4 : ¬cond0_4 i)
    (x0 : Vec F S1x8x256x512 .f32) (x1 : Vec F S1x1x256x512 .i32) (x2 : Vec F S1x2x256x512 .f32) (x3 : Vec F S1x256x512 .i32) (xi4 : Vec F S1x1 .f32) (xs0 : Vec F S2x8x131072 .f32) (xs1 : Vec F S2x16x131072 .bf16) (xs2 : Vec F S16x8 .f32) (xs3 : Vec F S16x512 .f32) (xs4 : Vec F S2x16x256 .f32) (xs5 : Vec F S16x8 .f32) (xs6 : Vec F S16x4 .f32) (xs7 : Vec F S16x16 .f32) (xs8 : Vec F S1x1 .f32) (xs9 : Vec F S1x1 .f32) (xs10 : Vec F S1x1 .f32) :
    Σ' (LS0 : List (View.Piece (Elt F) S2x8x131072 .f32)), Σ' (LS1 : List (View.Piece (Elt F) S2x16x131072 .bf16)), Σ' (LS2 : List (View.Piece (Elt F) S16x8 .f32)), Σ' (LS3 : List (View.Piece (Elt F) S16x512 .f32)), Σ' (LS4 : List (View.Piece (Elt F) S2x16x256 .f32)), Σ' (LS5 : List (View.Piece (Elt F) S16x8 .f32)), { LS6 : List (View.Piece (Elt F) S16x4 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ owns (c : Thread nD τ) arg15 fullShare xs7 ∗ owns (c : Thread nD τ) arg16 fullShare xs8 ∗ owns (c : Thread nD τ) arg17 fullShare xs9 ∗ owns (c : Thread nD τ) arg18 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5) ∗ (arg14.view.loc (c : Thread nD τ) ↦[arg14.view.set]{fullShare} arg14.view.writes (Elt F) (harg14.unread xs6) LS6) ∗ owns (c : Thread nD τ) arg15 fullShare xs7 ∗ owns (c : Thread nD τ) arg16 fullShare xs8 ∗ owns (c : Thread nD τ) arg17 fullShare xs9 ∗ owns (c : Thread nD τ) arg18 fullShare xs10) -∗ K ⟨⟩))
          ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0__body_eq_skeleton]; unfold cc0__body_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    iexists _; isplitr; · ipureintro; exact harg18.read_unread _
    iexact H15

end Cert.KernelIdeal.Hand

end
-- ==== Proof.KernelIdealRun.RunC.lean ====
module

public import proofs.«01_k».proof.Proof.KernelIdealRun.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's run in case C (phase 1, strip 0), on whole staging memrefs holding named contents: the pieces the body's
    stores leave in each scratch it stores into (the witness the run finds), with the proof that the
    body ends holding every other buffer as it was and those buffers with their pieces written over what they held. -/
noncomputable def runC (c : Dev nD) (i : grid0.Coords) (arg3 : Memref sig .tc .vmem S1x8x256x512 .f32) (harg3 : arg3.IsWhole) (arg4 : Memref sig .tc .vmem S1x1x256x512 .i32) (harg4 : arg4.IsWhole) (arg5 : Memref sig .tc .vmem S1x2x256x512 .f32) (harg5 : arg5.IsWhole) (arg6 : Memref sig .tc .vmem S1x256x512 .i32) (harg6 : arg6.IsWhole) (arg7 : Memref sig .tc .smem S1x1 .f32) (harg7 : arg7.IsWhole) (arg8 : Memref sig .tc .vmem S2x8x131072 .f32) (harg8 : arg8.IsWhole) (arg9 : Memref sig .tc .vmem S2x16x131072 .bf16) (harg9 : arg9.IsWhole) (arg10 : Memref sig .tc .vmem S16x8 .f32) (harg10 : arg10.IsWhole) (arg11 : Memref sig .tc .vmem S16x512 .f32) (harg11 : arg11.IsWhole) (arg12 : Memref sig .tc .vmem S2x16x256 .f32) (harg12 : arg12.IsWhole) (arg13 : Memref sig .tc .vmem S16x8 .f32) (harg13 : arg13.IsWhole) (arg14 : Memref sig .tc .vmem S16x4 .f32) (harg14 : arg14.IsWhole) (arg15 : Memref sig .tc .vmem S16x16 .f32) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (hc0 : ¬cond0_0 i) (hc1 : ¬cond0_1 i) (hc2 : ¬cond0_2 i) (hc4 : cond0_4 i) (hc5 : ¬cond0_5 i)
    (x0 : Vec F S1x8x256x512 .f32) (x1 : Vec F S1x1x256x512 .i32) (x2 : Vec F S1x2x256x512 .f32) (x3 : Vec F S1x256x512 .i32) (xi4 : Vec F S1x1 .f32) (xs0 : Vec F S2x8x131072 .f32) (xs1 : Vec F S2x16x131072 .bf16) (xs2 : Vec F S16x8 .f32) (xs3 : Vec F S16x512 .f32) (xs4 : Vec F S2x16x256 .f32) (xs5 : Vec F S16x8 .f32) (xs6 : Vec F S16x4 .f32) (xs7 : Vec F S16x16 .f32) (xs8 : Vec F S1x1 .f32) (xs9 : Vec F S1x1 .f32) (xs10 : Vec F S1x1 .f32) :
    Σ' (LS7 : List (View.Piece (Elt F) S16x16 .f32)), Σ' (LS8 : List (View.Piece (Elt F) S1x1 .f32)), { LS9 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ owns (c : Thread nD τ) arg15 fullShare xs7 ∗ owns (c : Thread nD τ) arg16 fullShare xs8 ∗ owns (c : Thread nD τ) arg17 fullShare xs9 ∗ owns (c : Thread nD τ) arg18 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ (arg15.view.loc (c : Thread nD τ) ↦[arg15.view.set]{fullShare} arg15.view.writes (Elt F) (harg15.unread xs7) LS7) ∗ (arg16.view.loc (c : Thread nD τ) ↦[arg16.view.set]{fullShare} arg16.view.writes (Elt F) (harg16.unread xs8) LS8) ∗ (arg17.view.loc (c : Thread nD τ) ↦[arg17.view.set]{fullShare} arg17.view.writes (Elt F) (harg17.unread xs9) LS9) ∗ owns (c : Thread nD τ) arg18 fullShare xs10) -∗ K ⟨⟩))
          ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc0 | sl_exact hc1 | sl_exact hc2 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexact H12
    isplitl [H13]
    · iexact H13
    isplitl [H14]
    · iexact H14
    iexists _; isplitr; · ipureintro; exact harg18.read_unread _
    iexact H15

end Cert.KernelIdeal.Hand

end
-- ==== Proof.KernelIdealRun.RunD.lean ====
module

public import proofs.«01_k».proof.Proof.KernelIdealRun.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's run in case D (phase 1, strip 1), on whole staging memrefs holding named contents: the pieces the body's
    stores leave in each scratch it stores into and in the output's staging memref (the witness the run finds), with the proof that the
    body ends holding every other buffer as it was and those buffers with their pieces written over what they held. -/
noncomputable def runD (c : Dev nD) (i : grid0.Coords) (arg3 : Memref sig .tc .vmem S1x8x256x512 .f32) (harg3 : arg3.IsWhole) (arg4 : Memref sig .tc .vmem S1x1x256x512 .i32) (harg4 : arg4.IsWhole) (arg5 : Memref sig .tc .vmem S1x2x256x512 .f32) (harg5 : arg5.IsWhole) (arg6 : Memref sig .tc .vmem S1x256x512 .i32) (harg6 : arg6.IsWhole) (arg7 : Memref sig .tc .smem S1x1 .f32) (harg7 : arg7.IsWhole) (arg8 : Memref sig .tc .vmem S2x8x131072 .f32) (harg8 : arg8.IsWhole) (arg9 : Memref sig .tc .vmem S2x16x131072 .bf16) (harg9 : arg9.IsWhole) (arg10 : Memref sig .tc .vmem S16x8 .f32) (harg10 : arg10.IsWhole) (arg11 : Memref sig .tc .vmem S16x512 .f32) (harg11 : arg11.IsWhole) (arg12 : Memref sig .tc .vmem S2x16x256 .f32) (harg12 : arg12.IsWhole) (arg13 : Memref sig .tc .vmem S16x8 .f32) (harg13 : arg13.IsWhole) (arg14 : Memref sig .tc .vmem S16x4 .f32) (harg14 : arg14.IsWhole) (arg15 : Memref sig .tc .vmem S16x16 .f32) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (hc0 : ¬cond0_0 i) (hc1 : ¬cond0_1 i) (hc2 : ¬cond0_2 i) (hc4 : cond0_4 i) (hc5 : cond0_5 i)
    (x0 : Vec F S1x8x256x512 .f32) (x1 : Vec F S1x1x256x512 .i32) (x2 : Vec F S1x2x256x512 .f32) (x3 : Vec F S1x256x512 .i32) (xi4 : Vec F S1x1 .f32) (xs0 : Vec F S2x8x131072 .f32) (xs1 : Vec F S2x16x131072 .bf16) (xs2 : Vec F S16x8 .f32) (xs3 : Vec F S16x512 .f32) (xs4 : Vec F S2x16x256 .f32) (xs5 : Vec F S16x8 .f32) (xs6 : Vec F S16x4 .f32) (xs7 : Vec F S16x16 .f32) (xs8 : Vec F S1x1 .f32) (xs9 : Vec F S1x1 .f32) (xs10 : Vec F S1x1 .f32) :
    Σ' (LS7 : List (View.Piece (Elt F) S16x16 .f32)), Σ' (LS8 : List (View.Piece (Elt F) S1x1 .f32)), Σ' (LS9 : List (View.Piece (Elt F) S1x1 .f32)), Σ' (LS10 : List (View.Piece (Elt F) S1x1 .f32)), { L4 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ owns (c : Thread nD τ) arg15 fullShare xs7 ∗ owns (c : Thread nD τ) arg16 fullShare xs8 ∗ owns (c : Thread nD τ) arg17 fullShare xs9 ∗ owns (c : Thread nD τ) arg18 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xi4) L4) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ (arg15.view.loc (c : Thread nD τ) ↦[arg15.view.set]{fullShare} arg15.view.writes (Elt F) (harg15.unread xs7) LS7) ∗ (arg16.view.loc (c : Thread nD τ) ↦[arg16.view.set]{fullShare} arg16.view.writes (Elt F) (harg16.unread xs8) LS8) ∗ (arg17.view.loc (c : Thread nD τ) ↦[arg17.view.set]{fullShare} arg17.view.writes (Elt F) (harg17.unread xs9) LS9) ∗ (arg18.view.loc (c : Thread nD τ) ↦[arg18.view.set]{fullShare} arg18.view.writes (Elt F) (harg18.unread xs10) LS10)) -∗ K ⟨⟩))
          ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0__body_eq_skeleton]; unfold cc0__body_skel
    simp only [k0_part5_eq_skeleton, k0_part6_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc0 | sl_exact hc1 | sl_exact hc2 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexact H12
    isplitl [H13]
    · iexact H13
    isplitl [H14]
    · iexact H14
    iexact H15

end Cert.KernelIdeal.Hand

end
-- ==== Proof.KernelIdealRun.RunE.lean ====
module

public import proofs.«01_k».proof.Proof.KernelIdealRun.RunD

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body's run in case E (phase 0, strip 0 of a batch but the first), on whole staging memrefs holding named contents: the pieces the body's
    stores leave in each scratch it stores into (the witness the run finds), with the proof that the
    body ends holding every other buffer as it was and those buffers with their pieces written over what they held. -/
noncomputable def runE (c : Dev nD) (i : grid0.Coords) (arg3 : Memref sig .tc .vmem S1x8x256x512 .f32) (harg3 : arg3.IsWhole) (arg4 : Memref sig .tc .vmem S1x1x256x512 .i32) (harg4 : arg4.IsWhole) (arg5 : Memref sig .tc .vmem S1x2x256x512 .f32) (harg5 : arg5.IsWhole) (arg6 : Memref sig .tc .vmem S1x256x512 .i32) (harg6 : arg6.IsWhole) (arg7 : Memref sig .tc .smem S1x1 .f32) (harg7 : arg7.IsWhole) (arg8 : Memref sig .tc .vmem S2x8x131072 .f32) (harg8 : arg8.IsWhole) (arg9 : Memref sig .tc .vmem S2x16x131072 .bf16) (harg9 : arg9.IsWhole) (arg10 : Memref sig .tc .vmem S16x8 .f32) (harg10 : arg10.IsWhole) (arg11 : Memref sig .tc .vmem S16x512 .f32) (harg11 : arg11.IsWhole) (arg12 : Memref sig .tc .vmem S2x16x256 .f32) (harg12 : arg12.IsWhole) (arg13 : Memref sig .tc .vmem S16x8 .f32) (harg13 : arg13.IsWhole) (arg14 : Memref sig .tc .vmem S16x4 .f32) (harg14 : arg14.IsWhole) (arg15 : Memref sig .tc .vmem S16x16 .f32) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (hc0 : ¬cond0_0 i) (hc1 : cond0_1 i) (hc2 : cond0_2 i) (hc3 : ¬cond0_3 i) (hc4 : ¬cond0_4 i)
    (x0 : Vec F S1x8x256x512 .f32) (x1 : Vec F S1x1x256x512 .i32) (x2 : Vec F S1x2x256x512 .f32) (x3 : Vec F S1x256x512 .i32) (xi4 : Vec F S1x1 .f32) (xs0 : Vec F S2x8x131072 .f32) (xs1 : Vec F S2x16x131072 .bf16) (xs2 : Vec F S16x8 .f32) (xs3 : Vec F S16x512 .f32) (xs4 : Vec F S2x16x256 .f32) (xs5 : Vec F S16x8 .f32) (xs6 : Vec F S16x4 .f32) (xs7 : Vec F S16x16 .f32) (xs8 : Vec F S1x1 .f32) (xs9 : Vec F S1x1 .f32) (xs10 : Vec F S1x1 .f32) :
    Σ' (LS0 : List (View.Piece (Elt F) S2x8x131072 .f32)), Σ' (LS1 : List (View.Piece (Elt F) S2x16x131072 .bf16)), Σ' (LS2 : List (View.Piece (Elt F) S16x8 .f32)), Σ' (LS3 : List (View.Piece (Elt F) S16x512 .f32)), Σ' (LS4 : List (View.Piece (Elt F) S2x16x256 .f32)), Σ' (LS7 : List (View.Piece (Elt F) S16x16 .f32)), { LS8 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5 ∗ owns (c : Thread nD τ) arg14 fullShare xs6 ∗ owns (c : Thread nD τ) arg15 fullShare xs7 ∗ owns (c : Thread nD τ) arg16 fullShare xs8 ∗ owns (c : Thread nD τ) arg17 fullShare xs9 ∗ owns (c : Thread nD τ) arg18 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2) ∗ (arg11.view.loc (c : Thread nD τ) ↦[arg11.view.set]{fullShare} arg11.view.writes (Elt F) (harg11.unread xs3) LS3) ∗ (arg12.view.loc (c : Thread nD τ) ↦[arg12.view.set]{fullShare} arg12.view.writes (Elt F) (harg12.unread xs4) LS4) ∗ owns (c : Thread nD τ) arg13 fullShare xs5 ∗ owns (c : Thread nD τ) arg14 fullShare xs6 ∗ (arg15.view.loc (c : Thread nD τ) ↦[arg15.view.set]{fullShare} arg15.view.writes (Elt F) (harg15.unread xs7) LS7) ∗ (arg16.view.loc (c : Thread nD τ) ↦[arg16.view.set]{fullShare} arg16.view.writes (Elt F) (harg16.unread xs8) LS8) ∗ owns (c : Thread nD τ) arg17 fullShare xs9 ∗ owns (c : Thread nD τ) arg18 fullShare xs10) -∗ K ⟨⟩))
          ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0__body_eq_skeleton]; unfold cc0__body_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexact H5
    isplitl [H6]
    · iexact H6
    isplitl [H7]
    · iexact H7
    isplitl [H8]
    · iexact H8
    isplitl [H9]
    · iexact H9
    isplitl [H10]
    · iexists _; isplitr; · ipureintro; exact harg13.read_unread _
      iexact H10
    isplitl [H11]
    · iexists _; isplitr; · ipureintro; exact harg14.read_unread _
      iexact H11
    isplitl [H12]
    · iexact H12
    isplitl [H13]
    · iexact H13
    isplitl [H14]
    · iexists _; isplitr; · ipureintro; exact harg17.read_unread _
      iexact H14
    iexists _; isplitr; · ipureintro; exact harg18.read_unread _
    iexact H15

end Cert.KernelIdeal.Hand

end
-- ==== Proof.KernelIdealRun.Step.lean ====
module

public import proofs.«01_k».proof.Proof.KernelIdealRun.RunE

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the eleven scratch buffers hold between grid points. -/
structure St (F : FTy → Type) where
  s0 : Vec F S2x8x131072 .f32
  s1 : Vec F S2x16x131072 .bf16
  s2 : Vec F S16x8 .f32
  s3 : Vec F S16x512 .f32
  s4 : Vec F S2x16x256 .f32
  s5 : Vec F S16x8 .f32
  s6 : Vec F S16x4 .f32
  s7 : Vec F S16x16 .f32
  s8 : Vec F S1x1 .f32
  s9 : Vec F S1x1 .f32
  s10 : Vec F S1x1 .f32

/-- The contents a memref's buffer reads back after the pieces `L` were written over the contents `v`. -/
abbrev written {sp : Space} {s : Shape} {e : EltTy} (a : Memref sig .tc sp s e) (h : a.IsWhole) (v : Vec F s e)
    (L : List (View.Piece (Elt F) s e)) : Vec F s e := a.view.read (Elt F) (a.view.writes (Elt F) (h.unread v) L)

/-- The scratch buffers owned at the contents of a state. -/
abbrev scr (c : Dev nD) (σ : St F) : sProp 𝕄 :=
  iprop(owns (c : Thread nD τ) scM0_0 fullShare σ.s0 ∗ owns (c : Thread nD τ) scM0_1 fullShare σ.s1 ∗ owns (c : Thread nD τ) scM0_2 fullShare σ.s2 ∗ owns (c : Thread nD τ) scM0_3 fullShare σ.s3 ∗ owns (c : Thread nD τ) scM0_4 fullShare σ.s4 ∗ owns (c : Thread nD τ) scM0_5 fullShare σ.s5 ∗ owns (c : Thread nD τ) scM0_6 fullShare σ.s6 ∗ owns (c : Thread nD τ) scM0_7 fullShare σ.s7 ∗ owns (c : Thread nD τ) scM0_8 fullShare σ.s8 ∗ owns (c : Thread nD τ) scM0_9 fullShare σ.s9 ∗ owns (c : Thread nD τ) scM0_10 fullShare σ.s10)

/-- A grid point is one of sixteen. -/
theorem lt16 (t : Fin cfg0.N) : t.val < 16 := lt_of_lt_of_eq t.isLt (show cfg0.N = 16 from N_0)

/-- At the very first point the body's condition 0 holds. -/
theorem cA0 (t : Fin cfg0.N) (h : t.val = 0) : cond0_0 (grid0.coords t) := by
  have := lt16 t; rw [hcond0_0 t]; omega
/-- At the very first point the body's condition 1 holds. -/
theorem cA1 (t : Fin cfg0.N) (h : t.val = 0) : cond0_1 (grid0.coords t) := by
  have := lt16 t; rw [hcond0_1 t]; omega
/-- At the very first point the body's condition 2 holds. -/
theorem cA2 (t : Fin cfg0.N) (h : t.val = 0) : cond0_2 (grid0.coords t) := by
  have := lt16 t; rw [hcond0_2 t]; omega
/-- At the very first point the body's condition 3 fails. -/
theorem cA3 (t : Fin cfg0.N) (h : t.val = 0) : ¬cond0_3 (grid0.coords t) := by
  have := lt16 t; rw [hcond0_3 t]; omega
/-- At the very first point the body's condition 4 fails. -/
theorem cA4 (t : Fin cfg0.N) (h : t.val = 0) : ¬cond0_4 (grid0.coords t) := by
  have := lt16 t; rw [hcond0_4 t]; omega
/-- The scratch after the body at a point of case A. -/
def stepA (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) : St F :=
  { σ with
    s0 := written scM0_0 (Memref.isWhole_whole _) σ.s0 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).1
    s1 := written scM0_1 (Memref.isWhole_whole _) σ.s1 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.1
    s2 := written scM0_2 (Memref.isWhole_whole _) σ.s2 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.1
    s3 := written scM0_3 (Memref.isWhole_whole _) σ.s3 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.1
    s4 := written scM0_4 (Memref.isWhole_whole _) σ.s4 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.1
    s7 := written scM0_7 (Memref.isWhole_whole _) σ.s7 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.2.1
    s8 := written scM0_8 (Memref.isWhole_whole _) σ.s8 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.2.2.1
    s9 := written scM0_9 (Memref.isWhole_whole _) σ.s9 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.2.2.2.1
    s10 := written scM0_10 (Memref.isWhole_whole _) σ.s10 (runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.2.2.2.2.1
  }
/-- At the point that ends an image's first sweep the body's condition 0 fails. -/
theorem cB0 (t : Fin cfg0.N) (h : t.val % 4 = 1) : ¬cond0_0 (grid0.coords t) := by
  have := lt16 t; rw [hcond0_0 t]; omega
/-- At the point that ends an image's first sweep the body's condition 1 fails. -/
theorem cB1 (t : Fin cfg0.N) (h : t.val % 4 = 1) : ¬cond0_1 (grid0.coords t) := by
  have := lt16 t; rw [hcond0_1 t]; omega
/-- At the point that ends an image's first sweep the body's condition 2 holds. -/
theorem cB2 (t : Fin cfg0.N) (h : t.val % 4 = 1) : cond0_2 (grid0.coords t) := by
  have := lt16 t; rw [hcond0_2 t]; omega
/-- At the point that ends an image's first sweep the body's condition 3 holds. -/
theorem cB3 (t : Fin cfg0.N) (h : t.val % 4 = 1) : cond0_3 (grid0.coords t) := by
  have := lt16 t; rw [hcond0_3 t]; omega
/-- At the point that ends an image's first sweep the body's condition 4 fails. -/
theorem cB4 (t : Fin cfg0.N) (h : t.val % 4 = 1) : ¬cond0_4 (grid0.coords t) := by
  have := lt16 t; rw [hcond0_4 t]; omega
/-- The scratch after the body at a point of case B. -/
def stepB (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) : St F :=
  { σ with
    s0 := written scM0_0 (Memref.isWhole_whole _) σ.s0 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).1
    s1 := written scM0_1 (Memref.isWhole_whole _) σ.s1 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.1
    s2 := written scM0_2 (Memref.isWhole_whole _) σ.s2 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.1
    s3 := written scM0_3 (Memref.isWhole_whole _) σ.s3 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.2.1
    s4 := written scM0_4 (Memref.isWhole_whole _) σ.s4 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.2.2.1
    s5 := written scM0_5 (Memref.isWhole_whole _) σ.s5 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.2.2.2.1
    s6 := written scM0_6 (Memref.isWhole_whole _) σ.s6 (runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.2.2.2.2.1
  }
/-- At the first point of an image's second sweep the body's condition 0 fails. -/
theorem cC0 (t : Fin cfg0.N) (h : t.val % 4 = 2) : ¬cond0_0 (grid0.coords t) := by
  have := lt16 t; rw [hcond0_0 t]; omega
/-- At the first point of an image's second sweep the body's condition 1 fails. -/
theorem cC1 (t : Fin cfg0.N) (h : t.val % 4 = 2) : ¬cond0_1 (grid0.coords t) := by
  have := lt16 t; rw [hcond0_1 t]; omega
/-- At the first point of an image's second sweep the body's condition 2 fails. -/
theorem cC2 (t : Fin cfg0.N) (h : t.val % 4 = 2) : ¬cond0_2 (grid0.coords t) := by
  have := lt16 t; rw [hcond0_2 t]; omega
/-- At the first point of an image's second sweep the body's condition 4 holds. -/
theorem cC4 (t : Fin cfg0.N) (h : t.val % 4 = 2) : cond0_4 (grid0.coords t) := by
  have := lt16 t; rw [hcond0_4 t]; omega
/-- At the first point of an image's second sweep the body's condition 5 fails. -/
theorem cC5 (t : Fin cfg0.N) (h : t.val % 4 = 2) : ¬cond0_5 (grid0.coords t) := by
  have := lt16 t; rw [hcond0_5 t]; omega
/-- The scratch after the body at a point of case C. -/
def stepC (c : Dev nD) (t : Fin cfg0.N) (h : t.val % 4 = 2) (x0 : Vec F S1x8x256x512 .f32) (x1 : Vec F S1x1x256x512 .i32) (x2 : Vec F S1x2x256x512 .f32) (x3 : Vec F S1x256x512 .i32) (xi4 : Vec F S1x1 .f32) (σ : St F) : St F :=
  { σ with
    s7 := written scM0_7 (Memref.isWhole_whole _) σ.s7 (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cC0 t h) (cC1 t h) (cC2 t h) (cC4 t h) (cC5 t h) x0 x1 x2 x3 xi4 σ.s0 σ.s1 σ.s2 σ.s3 σ.s4 σ.s5 σ.s6 σ.s7 σ.s8 σ.s9 σ.s10).1
    s8 := written scM0_8 (Memref.isWhole_whole _) σ.s8 (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cC0 t h) (cC1 t h) (cC2 t h) (cC4 t h) (cC5 t h) x0 x1 x2 x3 xi4 σ.s0 σ.s1 σ.s2 σ.s3 σ.s4 σ.s5 σ.s6 σ.s7 σ.s8 σ.s9 σ.s10).2.1
    s9 := written scM0_9 (Memref.isWhole_whole _) σ.s9 (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cC0 t h) (cC1 t h) (cC2 t h) (cC4 t h) (cC5 t h) x0 x1 x2 x3 xi4 σ.s0 σ.s1 σ.s2 σ.s3 σ.s4 σ.s5 σ.s6 σ.s7 σ.s8 σ.s9 σ.s10).2.2.1
  }
/-- At the last point of an image the body's condition 0 fails. -/
theorem cD0 (t : Fin cfg0.N) (h : t.val % 4 = 3) : ¬cond0_0 (grid0.coords t) := by
  have := lt16 t; rw [hcond0_0 t]; omega
/-- At the last point of an image the body's condition 1 fails. -/
theorem cD1 (t : Fin cfg0.N) (h : t.val % 4 = 3) : ¬cond0_1 (grid0.coords t) := by
  have := lt16 t; rw [hcond0_1 t]; omega
/-- At the last point of an image the body's condition 2 fails. -/
theorem cD2 (t : Fin cfg0.N) (h : t.val % 4 = 3) : ¬cond0_2 (grid0.coords t) := by
  have := lt16 t; rw [hcond0_2 t]; omega
/-- At the last point of an image the body's condition 4 holds. -/
theorem cD4 (t : Fin cfg0.N) (h : t.val % 4 = 3) : cond0_4 (grid0.coords t) := by
  have := lt16 t; rw [hcond0_4 t]; omega
/-- At the last point of an image the body's condition 5 holds. -/
theorem cD5 (t : Fin cfg0.N) (h : t.val % 4 = 3) : cond0_5 (grid0.coords t) := by
  have := lt16 t; rw [hcond0_5 t]; omega
/-- The scratch after the body at a point of case D. -/
def stepD (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) : St F :=
  { σ with
    s7 := written scM0_7 (Memref.isWhole_whole _) σ.s7 (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).1
    s8 := written scM0_8 (Memref.isWhole_whole _) σ.s8 (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).2.1
    s9 := written scM0_9 (Memref.isWhole_whole _) σ.s9 (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).2.2.1
    s10 := written scM0_10 (Memref.isWhole_whole _) σ.s10 (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).2.2.2.1
  }
/-- The output's staging memref after the body at a point of case D. -/
def outD (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) : Vec F S1x1 .f32 :=
  written (ms0_4 t) (hs0_4 t) xi4 (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).2.2.2.2.1
/-- At a later image's first point the body's condition 0 fails. -/
theorem cE0 (t : Fin cfg0.N) (h : t.val % 4 = 0 ∧ t.val ≠ 0) : ¬cond0_0 (grid0.coords t) := by
  have := lt16 t; rw [hcond0_0 t]; omega
/-- At a later image's first point the body's condition 1 holds. -/
theorem cE1 (t : Fin cfg0.N) (h : t.val % 4 = 0 ∧ t.val ≠ 0) : cond0_1 (grid0.coords t) := by
  have := lt16 t; rw [hcond0_1 t]; omega
/-- At a later image's first point the body's condition 2 holds. -/
theorem cE2 (t : Fin cfg0.N) (h : t.val % 4 = 0 ∧ t.val ≠ 0) : cond0_2 (grid0.coords t) := by
  have := lt16 t; rw [hcond0_2 t]; omega
/-- At a later image's first point the body's condition 3 fails. -/
theorem cE3 (t : Fin cfg0.N) (h : t.val % 4 = 0 ∧ t.val ≠ 0) : ¬cond0_3 (grid0.coords t) := by
  have := lt16 t; rw [hcond0_3 t]; omega
/-- At a later image's first point the body's condition 4 fails. -/
theorem cE4 (t : Fin cfg0.N) (h : t.val % 4 = 0 ∧ t.val ≠ 0) : ¬cond0_4 (grid0.coords t) := by
  have := lt16 t; rw [hcond0_4 t]; omega
/-- The scratch after the body at a point of case E. -/
def stepE (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) : St F :=
  { σ with
    s0 := written scM0_0 (Memref.isWhole_whole _) σ.s0 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).1
    s1 := written scM0_1 (Memref.isWhole_whole _) σ.s1 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.1
    s2 := written scM0_2 (Memref.isWhole_whole _) σ.s2 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.1
    s3 := written scM0_3 (Memref.isWhole_whole _) σ.s3 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.2.1
    s4 := written scM0_4 (Memref.isWhole_whole _) σ.s4 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.2.2.1
    s7 := written scM0_7 (Memref.isWhole_whole _) σ.s7 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.2.2.2.1
    s8 := written scM0_8 (Memref.isWhole_whole _) σ.s8 (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.2.2.2.2.1
  }

/-- The scratch after the body at a point, from the scratch before it. -/
def step (c : Dev nD) (t : Fin cfg0.N) (x0 : Vec F S1x8x256x512 .f32) (x1 : Vec F S1x1x256x512 .i32) (x2 : Vec F S1x2x256x512 .f32) (x3 : Vec F S1x256x512 .i32) (xi4 : Vec F S1x1 .f32) (σ : St F) : St F :=
  if hA : t.val = 0 then stepA c t hA x0 x1 x2 x3 xi4 σ
  else if hE : t.val % 4 = 0 then stepE c t ⟨hE, hA⟩ x0 x1 x2 x3 xi4 σ
  else if hB : t.val % 4 = 1 then stepB c t hB x0 x1 x2 x3 xi4 σ
  else if hC : t.val % 4 = 2 then stepC c t hC x0 x1 x2 x3 xi4 σ
  else if hD : t.val % 4 = 3 then stepD c t hD x0 x1 x2 x3 xi4 σ else σ
/-- The output's staging memref after the body at a point. -/
def outp (c : Dev nD) (t : Fin cfg0.N) (x0 : Vec F S1x8x256x512 .f32) (x1 : Vec F S1x1x256x512 .i32) (x2 : Vec F S1x2x256x512 .f32) (x3 : Vec F S1x256x512 .i32) (xi4 : Vec F S1x1 .f32) (σ : St F) : Vec F S1x1 .f32 :=
  if hD : t.val % 4 = 3 then outD c t hD x0 x1 x2 x3 xi4 σ else xi4

set_option maxHeartbeats 1600000 in
/-- The body at a point of case A takes the scratch from `σ` to `stepA`. -/
theorem tripleA (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c (stepA c t h x0 x1 x2 x3 xi4 σ)) -∗ K ⟨⟩))
      ⊢ wp frame (wpE (defs₀ (F := F)) Variants.none c none) E (bodyAt0 t) K := by
  unfold bodyAt0 stepA; dsimp only
  iintro ⟨H0, H1, H2, H3, H4, ⟨H5, H6, H7, H8, H9, H10, H11, H12, H13, H14, H15⟩, Hk⟩
  iapply ((runA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cA0 t h) (cA1 t h) (cA2 t h) (cA3 t h) (cA4 t h) x0 x1 x2 x3 xi4 σ.s0 σ.s1 σ.s2 σ.s3 σ.s4 σ.s5 σ.s6 σ.s7 σ.s8 σ.s9 σ.s10).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; dsimp only [written]
  isplitl [H6]
  · unfold owns; iexists _; isplitr
    swap; · iexact H6
    ipureintro; dsimp only [written]
  isplitl [H7]
  · unfold owns; iexists _; isplitr
    swap; · iexact H7
    ipureintro; dsimp only [written]
  isplitl [H8]
  · unfold owns; iexists _; isplitr
    swap; · iexact H8
    ipureintro; dsimp only [written]
  isplitl [H9]
  · unfold owns; iexists _; isplitr
    swap; · iexact H9
    ipureintro; dsimp only [written]
  isplitl [H10]
  · iexact H10
  isplitl [H11]
  · iexact H11
  isplitl [H12]
  · unfold owns; iexists _; isplitr
    swap; · iexact H12
    ipureintro; dsimp only [written]
  isplitl [H13]
  · unfold owns; iexists _; isplitr
    swap; · iexact H13
    ipureintro; dsimp only [written]
  isplitl [H14]
  · unfold owns; iexists _; isplitr
    swap; · iexact H14
    ipureintro; dsimp only [written]
  unfold owns; iexists _; isplitr
  swap; · iexact H15
  ipureintro; dsimp only [written]
set_option maxHeartbeats 1600000 in
/-- The body at a point of case B takes the scratch from `σ` to `stepB`. -/
theorem tripleB (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c (stepB c t h x0 x1 x2 x3 xi4 σ)) -∗ K ⟨⟩))
      ⊢ wp frame (wpE (defs₀ (F := F)) Variants.none c none) E (bodyAt0 t) K := by
  unfold bodyAt0 stepB; dsimp only
  iintro ⟨H0, H1, H2, H3, H4, ⟨H5, H6, H7, H8, H9, H10, H11, H12, H13, H14, H15⟩, Hk⟩
  iapply ((runB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cB0 t h) (cB1 t h) (cB2 t h) (cB3 t h) (cB4 t h) x0 x1 x2 x3 xi4 σ.s0 σ.s1 σ.s2 σ.s3 σ.s4 σ.s5 σ.s6 σ.s7 σ.s8 σ.s9 σ.s10).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; dsimp only [written]
  isplitl [H6]
  · unfold owns; iexists _; isplitr
    swap; · iexact H6
    ipureintro; dsimp only [written]
  isplitl [H7]
  · unfold owns; iexists _; isplitr
    swap; · iexact H7
    ipureintro; dsimp only [written]
  isplitl [H8]
  · unfold owns; iexists _; isplitr
    swap; · iexact H8
    ipureintro; dsimp only [written]
  isplitl [H9]
  · unfold owns; iexists _; isplitr
    swap; · iexact H9
    ipureintro; dsimp only [written]
  isplitl [H10]
  · unfold owns; iexists _; isplitr
    swap; · iexact H10
    ipureintro; dsimp only [written]
  isplitl [H11]
  · unfold owns; iexists _; isplitr
    swap; · iexact H11
    ipureintro; dsimp only [written]
  isplitl [H12]
  · iexact H12
  isplitl [H13]
  · iexact H13
  isplitl [H14]
  · iexact H14
  iexact H15
set_option maxHeartbeats 1600000 in
/-- The body at a point of case C takes the scratch from `σ` to `stepC`. -/
theorem tripleC (c : Dev nD) (t : Fin cfg0.N) (h : t.val % 4 = 2) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c (stepC c t h x0 x1 x2 x3 xi4 σ)) -∗ K ⟨⟩))
      ⊢ wp frame (wpE (defs₀ (F := F)) Variants.none c none) E (bodyAt0 t) K := by
  unfold bodyAt0 stepC; dsimp only
  iintro ⟨H0, H1, H2, H3, H4, ⟨H5, H6, H7, H8, H9, H10, H11, H12, H13, H14, H15⟩, Hk⟩
  iapply ((runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cC0 t h) (cC1 t h) (cC2 t h) (cC4 t h) (cC5 t h) x0 x1 x2 x3 xi4 σ.s0 σ.s1 σ.s2 σ.s3 σ.s4 σ.s5 σ.s6 σ.s7 σ.s8 σ.s9 σ.s10).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · unfold owns; iexists _; isplitr
    swap; · iexact H12
    ipureintro; dsimp only [written]
  isplitl [H13]
  · unfold owns; iexists _; isplitr
    swap; · iexact H13
    ipureintro; dsimp only [written]
  isplitl [H14]
  · unfold owns; iexists _; isplitr
    swap; · iexact H14
    ipureintro; dsimp only [written]
  iexact H15
set_option maxHeartbeats 1600000 in
/-- The body at a point of case D takes the scratch from `σ` to `stepD`. -/
theorem tripleD (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare (outD c t h x0 x1 x2 x3 xi4 σ) ∗ scr c (stepD c t h x0 x1 x2 x3 xi4 σ)) -∗ K ⟨⟩))
      ⊢ wp frame (wpE (defs₀ (F := F)) Variants.none c none) E (bodyAt0 t) K := by
  unfold bodyAt0 stepD outD; dsimp only
  iintro ⟨H0, H1, H2, H3, H4, ⟨H5, H6, H7, H8, H9, H10, H11, H12, H13, H14, H15⟩, Hk⟩
  iapply ((runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cD0 t h) (cD1 t h) (cD2 t h) (cD4 t h) (cD5 t h) x0 x1 x2 x3 xi4 σ.s0 σ.s1 σ.s2 σ.s3 σ.s4 σ.s5 σ.s6 σ.s7 σ.s8 σ.s9 σ.s10).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexact H0
  isplitl [H1]
  · iexact H1
  isplitl [H2]
  · iexact H2
  isplitl [H3]
  · iexact H3
  isplitl [H4]
  · unfold owns; iexists _; isplitr
    swap; · iexact H4
    ipureintro; dsimp only [written]
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · unfold owns; iexists _; isplitr
    swap; · iexact H12
    ipureintro; dsimp only [written]
  isplitl [H13]
  · unfold owns; iexists _; isplitr
    swap; · iexact H13
    ipureintro; dsimp only [written]
  isplitl [H14]
  · unfold owns; iexists _; isplitr
    swap; · iexact H14
    ipureintro; dsimp only [written]
  unfold owns; iexists _; isplitr
  swap; · iexact H15
  ipureintro; dsimp only [written]
set_option maxHeartbeats 1600000 in
/-- The body at a point of case E takes the scratch from `σ` to `stepE`. -/
theorem tripleE (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c (stepE c t h x0 x1 x2 x3 xi4 σ)) -∗ K ⟨⟩))
      ⊢ wp frame (wpE (defs₀ (F := F)) Variants.none c none) E (bodyAt0 t) K := by
  unfold bodyAt0 stepE; dsimp only
  iintro ⟨H0, H1, H2, H3, H4, ⟨H5, H6, H7, H8, H9, H10, H11, H12, H13, H14, H15⟩, Hk⟩
  iapply ((runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (cE0 t h) (cE1 t h) (cE2 t h) (cE3 t h) (cE4 t h) x0 x1 x2 x3 xi4 σ.s0 σ.s1 σ.s2 σ.s3 σ.s4 σ.s5 σ.s6 σ.s7 σ.s8 σ.s9 σ.s10).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; dsimp only [written]
  isplitl [H6]
  · unfold owns; iexists _; isplitr
    swap; · iexact H6
    ipureintro; dsimp only [written]
  isplitl [H7]
  · unfold owns; iexists _; isplitr
    swap; · iexact H7
    ipureintro; dsimp only [written]
  isplitl [H8]
  · unfold owns; iexists _; isplitr
    swap; · iexact H8
    ipureintro; dsimp only [written]
  isplitl [H9]
  · unfold owns; iexists _; isplitr
    swap; · iexact H9
    ipureintro; dsimp only [written]
  isplitl [H10]
  · iexact H10
  isplitl [H11]
  · iexact H11
  isplitl [H12]
  · unfold owns; iexists _; isplitr
    swap; · iexact H12
    ipureintro; dsimp only [written]
  isplitl [H13]
  · unfold owns; iexists _; isplitr
    swap; · iexact H13
    ipureintro; dsimp only [written]
  isplitl [H14]
  · iexact H14
  iexact H15

/-- The body at any point: the scratch goes from `σ` to `step`, the output's memref to `outp`, the inputs stay. -/
theorem triple (c : Dev nD) (t : Fin cfg0.N) (x0 : Vec F S1x8x256x512 .f32) (x1 : Vec F S1x1x256x512 .i32) (x2 : Vec F S1x2x256x512 .f32) (x3 : Vec F S1x256x512 .i32) (xi4 : Vec F S1x1 .f32) (σ : St F) (E : Set ℕ) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ scr c σ
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare (outp c t x0 x1 x2 x3 xi4 σ) ∗ scr c (step c t x0 x1 x2 x3 xi4 σ)) -∗ K ⟨⟩))
      ⊢ wp frame (wpE (defs₀ (F := F)) Variants.none c none) E (bodyAt0 t) K := by
  by_cases hA : t.val = 0
  · have e1 : step c t x0 x1 x2 x3 xi4 σ = stepA c t hA x0 x1 x2 x3 xi4 σ := by unfold step; rw [dif_pos hA]
    have e2 : outp c t x0 x1 x2 x3 xi4 σ = xi4 := by unfold outp; rw [dif_neg (by omega)]
    rw [e1, e2]; exact tripleA c t hA x0 x1 x2 x3 xi4 σ E K
  by_cases hE : t.val % 4 = 0
  · have e1 : step c t x0 x1 x2 x3 xi4 σ = stepE c t ⟨hE, hA⟩ x0 x1 x2 x3 xi4 σ := by unfold step; rw [dif_neg hA, dif_pos hE]
    have e2 : outp c t x0 x1 x2 x3 xi4 σ = xi4 := by unfold outp; rw [dif_neg (by omega)]
    rw [e1, e2]; exact tripleE c t ⟨hE, hA⟩ x0 x1 x2 x3 xi4 σ E K
  by_cases hB : t.val % 4 = 1
  · have e1 : step c t x0 x1 x2 x3 xi4 σ = stepB c t hB x0 x1 x2 x3 xi4 σ := by unfold step; rw [dif_neg hA, dif_neg hE, dif_pos hB]
    have e2 : outp c t x0 x1 x2 x3 xi4 σ = xi4 := by unfold outp; rw [dif_neg (by omega)]
    rw [e1, e2]; exact tripleB c t hB x0 x1 x2 x3 xi4 σ E K
  by_cases hC : t.val % 4 = 2
  · have e1 : step c t x0 x1 x2 x3 xi4 σ = stepC c t hC x0 x1 x2 x3 xi4 σ := by unfold step; rw [dif_neg hA, dif_neg hE, dif_neg hB, dif_pos hC]
    have e2 : outp c t x0 x1 x2 x3 xi4 σ = xi4 := by unfold outp; rw [dif_neg (by omega)]
    rw [e1, e2]; exact tripleC c t hC x0 x1 x2 x3 xi4 σ E K
  have hD : t.val % 4 = 3 := by omega
  have e1 : step c t x0 x1 x2 x3 xi4 σ = stepD c t hD x0 x1 x2 x3 xi4 σ := by unfold step; rw [dif_neg hA, dif_neg hE, dif_neg hB, dif_neg hC, dif_pos hD]
  have e2 : outp c t x0 x1 x2 x3 xi4 σ = outD c t hD x0 x1 x2 x3 xi4 σ := by unfold outp; rw [dif_pos hD]
  rw [e1, e2]; exact tripleD c t hD x0 x1 x2 x3 xi4 σ E K

end Cert.KernelIdeal.Hand

end
-- ==== Proof.KernelIdealRun.Frame.lean ====
module

public import proofs.«01_k».proof.Proof.KernelIdealRun.Step
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window is the one window whose contents this run does not name. -/
def forgets0 : Fin 5 → Bool := fun w => w.val == 4

/-- The proof data of the pipeline: the arrays as the region finds them, each input's buffer at its block, the output
    not named, and between points the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- Each window's array starts at what the region finds in it. -/
theorem A_eq (c : Dev nD) (w : Fin cfg0.W) : (dats m 0 c).A w = V m c (Pipeline.arrRef spec0 w) := by
  dsimp only [dats]
/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 1600000 in
/-- The body at any point keeps the inputs and leaves the scratch and the output at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩⟩, Hg⟩, Ho, ⟨%d0, H0⟩, ⟨%d1, H1⟩, ⟨%d2, H2⟩, ⟨%d3, H3⟩, ⟨%d4, H4⟩⟩
  iapply (triple c t (iblk m c 0 t) (iblk m c 1 t) (iblk m c 2 t) (iblk m c 3 t) d4 ⟨e0, e1, e2, e3, e4, e5, e6, e7, e8, e9, e10⟩ Set.univ _)
  isplitl [H0]; · iexact H0
  isplitl [H1]; · iexact H1
  isplitl [H2]; · iexact H2
  isplitl [H3]; · iexact H3
  isplitl [H4]; · iexact H4
  isplitl [HS0 HS1 HS2 HS3 HS4 HS5 HS6 HS7 HS8 HS9 HS10]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iexact HS10
  iintro ⟨H0, H1, H2, H3, H4, ⟨HS0, HS1, HS2, HS3, HS4, HS5, HS6, HS7, HS8, HS9, HS10⟩⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      iexists _; iexact HS10
    iexact Hg
  isplitl [Ho]; · iexact Ho
  isplitl [H0]; · iexact H0
  isplitl [H1]; · iexact H1
  isplitl [H2]; · iexact H2
  isplitl [H3]; · iexact H3
  iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant. -/
theorem hin (c : Dev nD) : Pipeline.ΦA spec0 c ⊢ (dats m 0 c).Φ 0 := Idealize.SL.BI.Entails.refl _
/-- The invariant is what the region gives back. -/
theorem hout (c : Dev nD) : (dats m 0 c).Φ (Fin.last cfg0.N) ⊢ Pipeline.ΦA spec0 c := Idealize.SL.BI.Entails.refl _

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: the kernel runs, keeps its arguments and ends quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Val.Spec.lean ====
module
public import Idealize.ShloMosaic.Lib.Pointwise
public import Idealize.ShloMosaic.Lib.IdealHost
@[expose] public section
set_option maxRecDepth 16384
noncomputable section
namespace Cert.Val
open Idealize.ShloMosaic
open scoped BigOperators

/-- The bound the length of a mean is held above. -/
def c12 : EReal := Ideal.ofBits .f32 0x2B8CBCCC#32
/-- The bound a norm is held above. -/
def ce : EReal := Ideal.ofBits .f32 0x322BCC77#32
/-- The number of pixels of an image. -/
def cHW : EReal := Ideal.ofBits .f32 0x48800000#32

/-- How many pixels carry instance `k`. -/
def cnt (I : Fin 512 → Fin 512 → BitVec 32) (k : Fin 16) : EReal :=
  ∑ y : Fin 512, ∑ x : Fin 512, if I y x = BitVec.ofNat 32 k.val then (1 : EReal) else 0
/-- The embedding summed over the pixels of instance `k`. -/
def sm (E : Fin 8 → Fin 512 → Fin 512 → EReal) (I : Fin 512 → Fin 512 → BitVec 32) (k : Fin 16) (d : Fin 8) : EReal :=
  ∑ y : Fin 512, ∑ x : Fin 512, if I y x = BitVec.ofNat 32 k.val then E d y x else 0
/-- The mean embedding of instance `k`. -/
def mean (E : Fin 8 → Fin 512 → Fin 512 → EReal) (I : Fin 512 → Fin 512 → BitVec 32) (k : Fin 16) (d : Fin 8) : EReal :=
  Ideal.div (sm E I k d) (cnt I k)
/-- The length of the mean embedding of instance `k`. -/
def len (E : Fin 8 → Fin 512 → Fin 512 → EReal) (I : Fin 512 → Fin 512 → BitVec 32) (k : Fin 16) : EReal :=
  Ideal.sqrt (∑ d : Fin 8, mean E I k d * mean E I k d)
/-- The normalised mean embedding of instance `k`. -/
def kf (E : Fin 8 → Fin 512 → Fin 512 → EReal) (I : Fin 512 → Fin 512 → BitVec 32) (k : Fin 16) (d : Fin 8) : EReal :=
  Ideal.div (mean E I k d) (max (len E I k) c12)

/-- The cosine of a pixel's embedding with its own direction. -/
def cosR (K E : Fin 8 → EReal) : EReal :=
  Ideal.div (∑ d : Fin 8, K d * E d)
    (max (Ideal.sqrt (∑ d : Fin 8, K d * K d)) ce * max (Ideal.sqrt (∑ d : Fin 8, E d * E d)) ce)

/-- The pull term of an image, given each pixel's instance. -/
def intraS (E : Fin 8 → Fin 512 → Fin 512 → EReal) (I : Fin 512 → Fin 512 → BitVec 32) (J : Fin 512 → Fin 512 → Fin 16) : EReal :=
  ∑ y : Fin 512, ∑ x : Fin 512, (Ideal.exp (1 - cosR (fun d => kf E I (J y x) d) (fun d => E d y x)) - 1)

/-- The absolute cosine of two directions. -/
def simS (K : Fin 16 → Fin 8 → EReal) (i j : Fin 16) : EReal :=
  max (Ideal.div (∑ d : Fin 8, K i d * K j d)
      (max (Ideal.sqrt (∑ d : Fin 8, K i d * K i d)) ce * max (Ideal.sqrt (∑ d : Fin 8, K j d * K j d)) ce))
    (-(Ideal.div (∑ d : Fin 8, K i d * K j d)
      (max (Ideal.sqrt (∑ d : Fin 8, K i d * K i d)) ce * max (Ideal.sqrt (∑ d : Fin 8, K j d * K j d)) ce)))

/-- A comparison for equality, as a number. -/
theorem uitofp_eq {w : ℕ} (a b : BitVec w) :
    (FloatOps.uitofp (F := Ideal) FTy.f32 (IntOp.cmpi CmpIPredicate.eq a b) : EReal) = if a = b then 1 else 0 := by
  show (((IntOp.cmpi CmpIPredicate.eq a b).toNat : ℝ) : EReal) = _
  by_cases h : a = b
  · simp [IntOp.cmpi, h]
  · have hb : (a == b) = false := by simpa using h
    simp [IntOp.cmpi, h, hb]

/-- A choice by a comparison for equality. -/
theorem select_eq {α : Type} {w : ℕ} (a b : BitVec w) (u v : α) :
    Scalar.select (IntOp.cmpi CmpIPredicate.eq a b) u v = if a = b then u else v := by
  by_cases h : a = b
  · simp [IntOp.cmpi, Scalar.select, h]
  · have hb : (a == b) = false := by simpa using h
    simp [IntOp.cmpi, Scalar.select, h, hb]

end Cert.Val
end
-- ==== Proof.Val.Bits.lean ====
module
public import proofs.«01_k».proof.Proof.Val.Spec
public import Idealize.ShloMosaic.Lib.SortFacts
@[expose] public section
set_option maxRecDepth 16384
noncomputable section
namespace Cert.Val
open Idealize.ShloMosaic
open scoped BigOperators
/-- The signed minimum is at most a bound exactly where an operand is. -/
theorem minsi_le (a b : BitVec 32) (t : ℤ) : (IntOp.minsi a b).toInt ≤ t ↔ a.toInt ≤ t ∨ b.toInt ≤ t := by
  unfold IntOp.minsi
  by_cases h : a.toInt < b.toInt
  · simp only [BitVec.slt, h, decide_true, if_true]; omega
  · simp only [BitVec.slt, h, decide_false, Bool.false_eq_true, if_false]; omega

/-- The signed maximum exceeds a bound exactly where an operand does. -/
theorem lt_maxsi (a b : BitVec 32) (t : ℤ) : t < (IntOp.maxsi a b).toInt ↔ t < a.toInt ∨ t < b.toInt := by
  unfold IntOp.maxsi
  by_cases h : b.toInt < a.toInt
  · simp only [BitVec.slt, h, decide_true, if_true]; omega
  · simp only [BitVec.slt, h, decide_false, Bool.false_eq_true, if_false]; omega

/-- A signed minimum over a set is at most a bound exactly where an element is. -/
theorem fold_minsi_le {ι : Type} (s : Finset ι) (f : ι → BitVec 32) (t : ℤ) (ht : t < 2147483647) :
    (Finset.fold IntOp.minsi 2147483647#32 f s).toInt ≤ t ↔ ∃ i ∈ s, (f i).toInt ≤ t := by
  classical
  induction s using Finset.induction_on with
  | empty =>
    simp only [Finset.fold_empty, Finset.notMem_empty, false_and, exists_false, iff_false]
    show ¬ ((2147483647 : ℤ) ≤ t)
    omega
  | insert a s ha ih =>
    rw [Finset.fold_insert ha, minsi_le, ih]
    simp [Finset.mem_insert]

/-- A signed maximum over a set exceeds a bound exactly where an element does. -/
theorem lt_fold_maxsi {ι : Type} (s : Finset ι) (f : ι → BitVec 32) (t : ℤ) (ht : -2147483648 ≤ t) :
    t < (Finset.fold IntOp.maxsi 2147483648#32 f s).toInt ↔ ∃ i ∈ s, t < (f i).toInt := by
  classical
  induction s using Finset.induction_on with
  | empty =>
    simp only [Finset.fold_empty, Finset.notMem_empty, false_and, exists_false, iff_false]
    show ¬ (t < (-2147483648 : ℤ))
    omega
  | insert a s ha ih =>
    rw [Finset.fold_insert ha, lt_maxsi, ih]
    simp [Finset.mem_insert]

/-- A bit is nought or one. -/
theorem bit_cases (v : BitVec 1) : v = 0#1 ∨ v = 1#1 := by
  revert v; decide

/-- A disjunction of bits is one exactly where either is. -/
theorem ori_one (a b : BitVec 1) : IntOp.ori a b = 1#1 ↔ a = 1#1 ∨ b = 1#1 := by
  revert a b; decide
/-- A conjunction of bits is one exactly where both are. -/
theorem andi_one (a b : BitVec 1) : IntOp.andi a b = 1#1 ↔ a = 1#1 ∧ b = 1#1 := by
  revert a b; decide

/-- A disjunction over a set is one exactly where an element is. -/
theorem fold_ori {ι : Type} (s : Finset ι) (f : ι → BitVec 1) :
    Finset.fold IntOp.ori 0#1 f s = 1#1 ↔ ∃ i ∈ s, f i = 1#1 := by
  classical
  induction s using Finset.induction_on with
  | empty => simp
  | insert a s ha ih =>
    rw [Finset.fold_insert ha, ori_one, ih]
    simp [Finset.mem_insert]

/-- A truth value's bit is one exactly where it is true. -/
theorem ofBool_one (b : Bool) : BitVec.ofBool b = 1#1 ↔ b = true := by
  cases b <;> decide
/-- The bit of a signed at-least comparison. -/
theorem sge_one (a b : BitVec 32) : IntOp.cmpi .sge a b = 1#1 ↔ b.toInt ≤ a.toInt := by
  simp [IntOp.cmpi, ofBool_one, BitVec.sle]
/-- The bit of a signed less-than comparison. -/
theorem slt_one (a b : BitVec 32) : IntOp.cmpi .slt a b = 1#1 ↔ a.toInt < b.toInt := by
  simp [IntOp.cmpi, ofBool_one, BitVec.slt]
/-- The bit of a signed greater-than comparison. -/
theorem sgt_one (a b : BitVec 32) : IntOp.cmpi .sgt a b = 1#1 ↔ b.toInt < a.toInt := by
  simp [IntOp.cmpi, ofBool_one, BitVec.slt]
/-- The bit of an equality comparison. -/
theorem eq_one {w : ℕ} (a b : BitVec w) : IntOp.cmpi .eq a b = 1#1 ↔ a = b := by
  simp [IntOp.cmpi, ofBool_one]

/-- A small literal read signed is itself. -/
theorem toInt_small (n : ℕ) (h : n < 2147483648) : (BitVec.ofNat 32 n).toInt = n := by
  rw [BitVec.toInt_eq_toNat_cond, BitVec.toNat_ofNat, Nat.mod_eq_of_lt (by omega)]
  rw [if_pos (by omega)]

/-- A choice by a bit. -/
theorem select_one {α : Type} (c : BitVec 1) (u v : α) : c = 1#1 → Scalar.select c u v = u := by
  rintro rfl; rfl
/-- A choice by a bit that is not one takes the second value. -/
theorem select_zero {α : Type} (c : BitVec 1) (u v : α) : c ≠ 1#1 → Scalar.select c u v = v := by
  intro h
  rcases bit_cases c with rfl | rfl
  · rfl
  · exact absurd rfl h

/-- The lower edge of a window lies at or below a coordinate exactly where the least occupied one is within ten. -/
theorem edge_low (m : BitVec 32) (x : ℤ) (h0 : 0 ≤ x) :
    (Scalar.select (IntOp.cmpi .sgt m 10#32) (IntOp.subi m 10#32) 0#32).toInt ≤ x ↔ m.toInt ≤ x + 10 := by
  have e10 : (10#32 : BitVec 32).toInt = 10 := by decide
  have hu := BitVec.toInt_lt (x := m)
  by_cases h : (10 : ℤ) < m.toInt
  · rw [select_one _ _ _ ((sgt_one _ _).mpr (by rw [e10]; exact h))]
    show (m - 10#32).toInt ≤ x ↔ _
    rw [BitVec.toInt_sub, e10, Int.bmod_eq_of_le (by omega) (by omega)]
    omega
  · rw [select_zero _ _ _ (fun hh => h (by rw [← e10]; exact (sgt_one _ _).mp hh))]
    rw [show (0#32 : BitVec 32).toInt = 0 by decide]
    omega

/-- The upper edge of a window lies above a coordinate exactly where the greatest occupied one is within ten. -/
theorem edge_high (m : BitVec 32) (x : ℤ) (h0 : x < 512) :
    x < (Scalar.select (IntOp.cmpi .slt m 502#32) (IntOp.addi m 10#32) 512#32).toInt ↔ x - 10 < m.toInt := by
  have e10 : (10#32 : BitVec 32).toInt = 10 := by decide
  have e502 : (502#32 : BitVec 32).toInt = 502 := by decide
  have hu := BitVec.le_toInt (x := m)
  by_cases h : m.toInt < (502 : ℤ)
  · rw [select_one _ _ _ ((slt_one _ _).mpr (by rw [e502]; exact h))]
    show x < (m + 10#32).toInt ↔ _
    rw [BitVec.toInt_add, e10, Int.bmod_eq_of_le (by omega) (by omega)]
    omega
  · rw [select_zero _ _ _ (fun hh => h (by rw [← e502]; exact (slt_one _ _).mp hh))]
    rw [show (512#32 : BitVec 32).toInt = 512 by decide]
    omega

/-- A pixel lies in the window of instance `k`. -/
def W (I : Fin 512 → Fin 512 → BitVec 32) (k : Fin 16) (y x : Fin 512) : Prop :=
  ((∃ y' x' : Fin 512, I y' x' = BitVec.ofNat 32 k.val ∧ y'.val ≤ y.val + 10) ∧
   (∃ y' x' : Fin 512, I y' x' = BitVec.ofNat 32 k.val ∧ y.val < y'.val + 10)) ∧
  ((∃ y' x' : Fin 512, I y' x' = BitVec.ofNat 32 k.val ∧ x'.val ≤ x.val + 10) ∧
   (∃ y' x' : Fin 512, I y' x' = BitVec.ofNat 32 k.val ∧ x.val < x'.val + 10))

/-- Instance `l` has a pixel in the window of instance `k`. -/
def P (I : Fin 512 → Fin 512 → BitVec 32) (k l : Fin 16) : Prop :=
  ∃ y x : Fin 512, W I k y x ∧ I y x = BitVec.ofNat 32 l.val

open Classical in
/-- Instance `l` is among the ten greatest in the window of `k`, the zeroth left out. -/
def Nr (p : Fin 16 → Prop) (l : Fin 16) : Prop :=
  p l ∧ 1 ≤ l.val ∧ (Finset.univ.filter (fun j : Fin 16 => l < j ∧ p j)).card ≤ 9

open Classical in
/-- The weight of a pair of instances. -/
def nmS (I : Fin 512 → Fin 512 → BitVec 32) (k l : Fin 16) : EReal :=
  if k = 0 ∧ l = 0 then 0 else if k = 0 ∨ l = 0 then Ideal.ofBits .f32 0x3F000000#32 else if Nr (P I k) l then 1 else 0

/-- The push term of an image. -/
def interS (E : Fin 8 → Fin 512 → Fin 512 → EReal) (I : Fin 512 → Fin 512 → BitVec 32) : EReal :=
  Ideal.div (∑ k : Fin 16, ∑ l : Fin 16, (Ideal.exp (simS (kf E I) k l) - 1) * nmS I k l)
    (∑ k : Fin 16, ∑ l : Fin 16, nmS I k l)

open Classical in
/-- The first ten of a descending order of the present instances hold an instance exactly where at most nine greater
    ones are present. -/
theorem top_iff (w : Fin 16 → BitVec 32) (p : Fin 16 → Prop)
    (hw : ∀ l, w l = if p l then BitVec.ofNat 32 l.val else 4294967295#32)
    (σ : Fin 16 → Fin 16) (hσ : Function.Surjective σ)
    (hs : ∀ i j : Fin 16, i < j → ¬ (-(w (σ j))).toInt < (-(w (σ i))).toInt) (l : Fin 16) :
    (∃ i : Fin 10, w (σ ⟨i.val, by omega⟩) = BitVec.ofNat 32 l.val ∧ 0 < (w (σ ⟨i.val, by omega⟩)).toInt) ↔ Nr p l := by
  have hi : Function.Injective σ := Finite.injective_iff_surjective.mpr hσ
  have hpos : ∀ j : Fin 16, (-(BitVec.ofNat 32 j.val)).toInt = -(j.val : ℤ) := by decide
  have hneg : (-(4294967295#32 : BitVec 32)).toInt = 1 := by decide
  have hz : (4294967295#32 : BitVec 32).toInt = -1 := by decide
  have hn : ∀ j, (-(w j)).toInt = if p j then -(j.val : ℤ) else 1 := by
    intro j; rw [hw]; split
    · exact hpos j
    · exact hneg
  have hv : ∀ j, (w j).toInt = if p j then (j.val : ℤ) else -1 := by
    intro j; rw [hw]; split
    · exact toInt_small _ (by omega)
    · exact hz
  -- the place of a present instance counts the greater present ones
  have hcard : ∀ i : Fin 16, p (σ i) → (Finset.univ.filter (fun j : Fin 16 => σ i < j ∧ p j)).card = i.val := by
    intro i hp
    have : (Finset.univ.filter (fun j : Fin 16 => σ i < j ∧ p j)) = (Finset.Iio i).image σ := by
      ext j
      simp only [Finset.mem_filter, Finset.mem_univ, true_and, Finset.mem_image, Finset.mem_Iio]
      constructor
      · rintro ⟨hlt, hpj⟩
        obtain ⟨q, rfl⟩ := hσ j
        refine ⟨q, ?_, rfl⟩
        by_contra hq
        rcases lt_or_eq_of_le (not_lt.mp hq) with h | h
        · have := hs i q h
          rw [hn, hn, if_pos hp, if_pos hpj] at this
          have : (σ i).val < (σ q).val := hlt
          omega
        · subst h; exact absurd hlt (lt_irrefl _)
      · rintro ⟨q, hq, rfl⟩
        have h := hs q i hq
        have hne : σ q ≠ σ i := fun e => (ne_of_lt hq) (hi e)
        rw [hn, hn, if_pos hp] at h
        by_cases hpq : p (σ q)
        · rw [if_pos hpq] at h
          refine ⟨?_, hpq⟩
          have : (σ q).val ≠ (σ i).val := fun e => hne (Fin.ext e)
          show (σ i).val < (σ q).val
          omega
        · rw [if_neg hpq] at h; omega
    rw [this, Finset.card_image_of_injective _ hi, Fin.card_Iio]
  constructor
  · rintro ⟨i, he, h0⟩
    have hp : p (σ ⟨i.val, by omega⟩) := by
      by_contra hp
      rw [hv, if_neg hp] at h0; omega
    have hl : σ ⟨i.val, by omega⟩ = l := by
      have := congrArg BitVec.toInt he
      rw [hv, if_pos hp, toInt_small _ (by omega)] at this
      exact Fin.ext (by omega)
    rw [hv, if_pos hp] at h0
    have hc := hcard _ hp
    rw [hl] at hp h0 hc
    refine ⟨hp, by omega, ?_⟩
    rw [hc]
    show i.val ≤ 9
    omega
  · rintro ⟨hp, h1, hc⟩
    obtain ⟨q, rfl⟩ := hσ l
    have hq := hcard q hp
    have : q.val < 10 := by omega
    refine ⟨⟨q.val, this⟩, ?_, ?_⟩
    · show w (σ q) = _
      rw [hw, if_pos hp]
    · show 0 < (w (σ q)).toInt
      rw [hv, if_pos hp]; omega

end Cert.Val
end
-- ==== Proof.Val.Core.lean ====
module
public import proofs.«01_k».proof.Proof.Val.Spec
@[expose] public section
set_option maxRecDepth 16384
noncomputable section
namespace Cert.Val
open Idealize.ShloMosaic
open scoped BigOperators
/-- A value that is a real number. -/
def IsR (x : EReal) : Prop := ∃ r : ℝ, x = (r : EReal)

/-- A real number is real. -/
theorem isR_coe (r : ℝ) : IsR (r : EReal) := ⟨r, rfl⟩
/-- What is not real is one of the infinities. -/
theorem not_isR {x : EReal} (h : ¬ IsR x) : x = ⊥ ∨ x = ⊤ := by
  induction x using EReal.rec with
  | bot => exact Or.inl rfl
  | top => exact Or.inr rfl
  | coe r => exact absurd ⟨r, rfl⟩ h
/-- Minus infinity is not real. -/
theorem isR_bot : ¬ IsR ⊥ := fun ⟨r, h⟩ => EReal.coe_ne_bot r h.symm
/-- Plus infinity is not real. -/
theorem isR_top : ¬ IsR ⊤ := fun ⟨r, h⟩ => EReal.coe_ne_top r h.symm

/-- A sum of reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isR_sum {ι : Type} (s : Finset ι) (f : ι → EReal) (h : ∀ i, IsR (f i)) : IsR (∑ i ∈ s, f i) := by
  choose g hg using h
  exact ⟨∑ i ∈ s, g i, by simp only [hg]; exact coe_sum s g⟩

/-- A sum with no summand at the bottom is not the bottom. -/
theorem sum_ne_bot {ι : Type} (s : Finset ι) (f : ι → EReal) (h : ∀ i, f i ≠ ⊥) : ∑ i ∈ s, f i ≠ ⊥ := by
  classical
  induction s using Finset.induction_on with
  | empty => simp
  | insert a s ha ih =>
    rw [Finset.sum_insert ha]
    intro hh
    rcases EReal.add_eq_bot_iff.mp hh with h' | h'
    · exact h a h'
    · exact ih h'

/-- A sum with a summand at minus infinity is minus infinity. -/
theorem sum_bot {ι : Type} (s : Finset ι) (f : ι → EReal) (i : ι) (hi : i ∈ s) (h : f i = ⊥) : ∑ j ∈ s, f j = ⊥ := by
  classical
  rw [← Finset.add_sum_erase s f hi, h, EReal.bot_add]

/-- A sum with a summand at plus infinity and none at minus infinity is plus infinity. -/
theorem sum_top {ι : Type} (s : Finset ι) (f : ι → EReal) (i : ι) (hi : i ∈ s) (h : f i = ⊤) (hb : ∀ j, f j ≠ ⊥) :
    ∑ j ∈ s, f j = ⊤ := by
  classical
  rw [← Finset.add_sum_erase s f hi, h]
  exact EReal.top_add_of_ne_bot (sum_ne_bot _ _ hb)

/-- The summands of a real sum are real. -/
theorem isR_of_sum {ι : Type} [Fintype ι] (f : ι → EReal) (h : IsR (∑ i, f i)) (i : ι) : IsR (f i) := by
  have hb : ∀ j, f j ≠ ⊥ := by
    intro j hj
    rw [sum_bot _ f j (Finset.mem_univ _) hj] at h
    exact isR_bot h
  by_contra hi
  rcases not_isR hi with h' | h'
  · exact hb i h'
  · rw [sum_top _ f i (Finset.mem_univ _) h' hb] at h
    exact isR_top h

/-- The least length, as a real. -/
theorem c12_val : c12 = ((9223372 / 2 ^ 63 : ℝ) : EReal) := by
  unfold c12; simp [Ideal.ofBits, Ideal.ieee, -EReal.coe_mul]; norm_num
/-- The least norm, as a real. -/
theorem ce_val : ce = ((11258999 / 2 ^ 50 : ℝ) : EReal) := by
  unfold ce; simp [Ideal.ofBits, Ideal.ieee, -EReal.coe_mul]; norm_num

/-- The greater of two reals, taken among the extended reals, is their greater. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The root of a real that is not negative is the real root. -/
theorem sqrt_nonneg_coe {r : ℝ} (h : 0 ≤ r) : Ideal.sqrt (r : EReal) = ((Real.sqrt r : ℝ) : EReal) := by
  rw [Ideal.sqrt_coe, if_neg (not_lt.mpr h)]

/-- A square is never minus infinity. -/
theorem mul_self_ne_bot (x : EReal) : x * x ≠ ⊥ := by
  induction x using EReal.rec with
  | bot => simp
  | top => simp
  | coe r => rw [← EReal.coe_mul]; exact EReal.coe_ne_bot _

/-- The number of pixels of an instance is a non-negative real. -/
theorem cnt_real (I : Fin 512 → Fin 512 → BitVec 32) (k : Fin 16) : ∃ n : ℝ, 0 ≤ n ∧ cnt I k = (n : EReal) := by
  refine ⟨∑ y : Fin 512, ∑ x : Fin 512, if I y x = BitVec.ofNat 32 k.val then (1 : ℝ) else 0, ?_, ?_⟩
  · exact Finset.sum_nonneg fun y _ => Finset.sum_nonneg fun x _ => by split <;> norm_num
  · unfold cnt
    rw [← coe_sum]
    refine Finset.sum_congr rfl fun y _ => ?_
    rw [← coe_sum]
    refine Finset.sum_congr rfl fun x _ => ?_
    split <;> simp

variable (E : Fin 8 → Fin 512 → Fin 512 → EReal) (I : Fin 512 → Fin 512 → BitVec 32) (k : Fin 16)

/-- A direction is null, or a real unit vector of an instance whose embeddings are real. -/
theorem kf_cases (hpre : len E I k = 0 ∨ c12 ≤ len E I k) :
    (∀ d, kf E I k d = 0) ∨
    ((∃ q : Fin 8 → ℝ, (∀ d, kf E I k d = (q d : EReal)) ∧ ∑ d, q d * q d = 1) ∧
      ∀ y x, I y x = BitVec.ofNat 32 k.val → ∀ d, IsR (E d y x)) := by
  by_cases hm : ∀ d, IsR (mean E I k d)
  · choose μ hμ using hm
    have hs0 : 0 ≤ ∑ d, μ d * μ d := Finset.sum_nonneg fun d _ => mul_self_nonneg _
    have hlen : len E I k = ((Real.sqrt (∑ d, μ d * μ d) : ℝ) : EReal) := by
      unfold len
      simp only [hμ, ← EReal.coe_mul, coe_sum]
      exact sqrt_nonneg_coe hs0
    obtain ⟨n, hn0, hn⟩ := cnt_real I k
    have hn1 : n ≠ 0 := by
      rintro rfl
      have h := hμ 0
      unfold mean at h
      rw [hn, Ideal.div, if_pos EReal.coe_zero] at h
      split at h
      · exact EReal.coe_ne_top _ h.symm
      · exact EReal.coe_ne_bot _ h.symm
    have hnp : 0 < 1 / n := one_div_pos.mpr (lt_of_le_of_ne hn0 (Ne.symm hn1))
    have hsm : ∀ d, IsR (sm E I k d) := by
      intro d
      by_contra hc
      have h := hμ d
      unfold mean at h
      rw [hn, Ideal.div_coe hn1] at h
      rcases not_isR hc with h' | h'
      · rw [h', EReal.bot_mul_coe_of_pos hnp] at h
        exact EReal.coe_ne_bot _ h.symm
      · rw [h', EReal.top_mul_coe_of_pos hnp] at h
        exact EReal.coe_ne_top _ h.symm
    have hE : ∀ y x, I y x = BitVec.ofNat 32 k.val → ∀ d, IsR (E d y x) := by
      intro y x hyx d
      have h := isR_of_sum _ (isR_of_sum _ (hsm d) y) x
      rw [if_pos hyx] at h
      exact h
    rw [hlen, c12_val, EReal.coe_le_coe_iff] at hpre
    have hkf : ∀ d, kf E I k d
        = ((μ d * (1 / max (Real.sqrt (∑ d, μ d * μ d)) (9223372 / 2 ^ 63)) : ℝ) : EReal) := by
      intro d
      unfold kf
      rw [hlen, c12_val, coe_max', hμ, Ideal.div_coe, EReal.coe_mul]
      have : (0 : ℝ) < max (Real.sqrt (∑ d, μ d * μ d)) (9223372 / 2 ^ 63) := lt_max_of_lt_right (by positivity)
      exact ne_of_gt this
    rcases hpre with h0 | h1
    · left
      have h0 : Real.sqrt (∑ d, μ d * μ d) = 0 := by exact_mod_cast h0
      have hz := (Real.sqrt_eq_zero hs0).mp h0
      have hz' := (Finset.sum_eq_zero_iff_of_nonneg fun d _ => mul_self_nonneg (μ d)).mp hz
      intro d
      have : μ d = 0 := mul_self_eq_zero.mp (hz' d (Finset.mem_univ _))
      rw [hkf, this, zero_mul, EReal.coe_zero]
    · right
      refine ⟨⟨_, hkf, ?_⟩, hE⟩
      rw [max_eq_left h1]
      have hL : 0 < Real.sqrt (∑ d, μ d * μ d) := lt_of_lt_of_le (by positivity) h1
      have hsq := Real.mul_self_sqrt hs0
      have : ∀ d, μ d * (1 / Real.sqrt (∑ d, μ d * μ d)) * (μ d * (1 / Real.sqrt (∑ d, μ d * μ d)))
          = μ d * μ d * (1 / (Real.sqrt (∑ d, μ d * μ d) * Real.sqrt (∑ d, μ d * μ d))) := by
        intro d; field_simp
      simp only [this]
      rw [← Finset.sum_mul, hsq]
      have : ∑ d, μ d * μ d ≠ 0 := by
        intro hz; rw [hz, Real.sqrt_zero] at hL; exact lt_irrefl _ hL
      rw [mul_one_div, div_self this]
  · left
    push Not at hm
    obtain ⟨d', hd'⟩ := hm
    have htop : mean E I k d' * mean E I k d' = ⊤ := by
      rcases not_isR hd' with h | h <;> rw [h] <;> simp
    have hlen : len E I k = ⊤ := by
      unfold len
      rw [sum_top Finset.univ (fun d => mean E I k d * mean E I k d) d' (Finset.mem_univ _) htop
        (fun j => mul_self_ne_bot _)]
      rfl
    intro d
    unfold kf
    rw [hlen, max_eq_left le_top, Ideal.div, if_neg (by simp)]
    simp

/-- The kernel's cosine: the dot product over the embedding's norm alone. -/
def cosK (K E : Fin 8 → EReal) : EReal :=
  (∑ d : Fin 8, K d * E d) * Ideal.rsqrt (max (∑ d : Fin 8, E d * E d) ((11258999 ^ 2 / 2 ^ 100 : ℝ) : EReal))

/-- The two cosines of a null direction are nought. -/
theorem cos_null (K E : Fin 8 → EReal) (h : ∀ d, K d = 0) : cosK K E = 0 ∧ cosR K E = 0 := by
  unfold cosK cosR
  simp only [h, zero_mul, Finset.sum_const_zero, true_and]
  have h0 : Ideal.sqrt (0 : EReal) = 0 := by
    rw [← EReal.coe_zero, sqrt_nonneg_coe le_rfl, Real.sqrt_zero]
  have hc : (0 : EReal) < ce := by rw [ce_val]; exact_mod_cast (by positivity : (0:ℝ) < 11258999 / 2 ^ 50)
  have hpos : 0 < max (Ideal.sqrt 0) ce * max (Ideal.sqrt (∑ d : Fin 8, E d * E d)) ce :=
    EReal.mul_pos (lt_max_of_lt_right hc) (lt_max_of_lt_right hc)
  rw [Ideal.div, if_neg (ne_of_gt hpos), zero_mul]

/-- The two cosines of a unit direction agree, and are real. -/
theorem cos_unit (K E : Fin 8 → EReal) (q : Fin 8 → ℝ) (hq : ∀ d, K d = (q d : EReal)) (h1 : ∑ d, q d * q d = 1)
    (hE : ∀ d, IsR (E d)) : cosK K E = cosR K E ∧ IsR (cosR K E) := by
  choose e he using hE
  have hs0 : 0 ≤ ∑ d, e d * e d := Finset.sum_nonneg fun d _ => mul_self_nonneg _
  have hr : cosR K E = (((∑ d, q d * e d) * (1 / max (Real.sqrt (∑ d, e d * e d)) (11258999 / 2 ^ 50)) : ℝ) : EReal) := by
    unfold cosR
    simp only [hq, he, ← EReal.coe_mul, coe_sum]
    rw [h1, sqrt_nonneg_coe hs0, sqrt_nonneg_coe zero_le_one, ce_val, coe_max', coe_max', ← EReal.coe_mul, Real.sqrt_one,
      max_eq_left (by norm_num : (11258999 / 2 ^ 50 : ℝ) ≤ 1), one_mul, Ideal.div_coe, ← EReal.coe_mul]
    exact ne_of_gt (lt_max_of_lt_right (by positivity))
  refine ⟨?_, by rw [hr]; exact isR_coe _⟩
  rw [hr]
  unfold cosK
  simp only [hq, he, ← EReal.coe_mul, coe_sum]
  have hm : (0 : ℝ) < max (∑ d, e d * e d) (11258999 ^ 2 / 2 ^ 100) := lt_max_of_lt_right (by positivity)
  rw [coe_max', Ideal.rsqrt_coe, if_neg (not_lt.mpr hm.le), if_neg (ne_of_gt hm), ← EReal.coe_mul]
  have : Real.sqrt (max (∑ d, e d * e d) (11258999 ^ 2 / 2 ^ 100)) = max (Real.sqrt (∑ d, e d * e d)) (11258999 / 2 ^ 50) := by
    have hmono : Monotone Real.sqrt := fun a b hab => Real.sqrt_le_sqrt hab
    rw [hmono.map_max]
    congr 1
    rw [show (11258999 ^ 2 / 2 ^ 100 : ℝ) = (11258999 / 2 ^ 50) ^ 2 by norm_num]
    exact Real.sqrt_sq (by positivity)
  rw [this, one_div]

/-- A direction is real. -/
theorem kf_real (hpre : len E I k = 0 ∨ c12 ≤ len E I k) (d : Fin 8) : IsR (kf E I k d) := by
  rcases kf_cases E I k hpre with h | ⟨⟨q, hq, _⟩, _⟩
  · rw [h]; exact ⟨0, EReal.coe_zero.symm⟩
  · rw [hq]; exact isR_coe _

/-- At a pixel of an instance the two cosines with the instance's direction agree, and are real. -/
theorem cos_eq (hpre : len E I k = 0 ∨ c12 ≤ len E I k) (y x : Fin 512) (h : I y x = BitVec.ofNat 32 k.val) :
    cosK (fun d => kf E I k d) (fun d => E d y x) = cosR (fun d => kf E I k d) (fun d => E d y x)
      ∧ IsR (cosR (fun d => kf E I k d) (fun d => E d y x)) := by
  rcases kf_cases E I k hpre with h0 | ⟨⟨q, hq, h1⟩, hE⟩
  · obtain ⟨a, b⟩ := cos_null (fun d => kf E I k d) (fun d => E d y x) h0
    rw [a, b]
    exact ⟨rfl, ⟨0, EReal.coe_zero.symm⟩⟩
  · exact cos_unit _ _ q hq h1 (fun d => hE y x h d)

end Cert.Val
end
-- ==== Proof.KernelIdealRun.StepVal.lean ====
module
public import proofs.«01_k».proof.Proof.KernelIdealRun.Step
public import Idealize.ShloMosaic.Lib.Pipeline.ValueKit
public import Idealize.ShloMosaic.Lib.Pipeline.ReadBack
@[expose] public section
set_option maxRecDepth 16384

noncomputable section
namespace Cert.KernelIdeal.Hand
open Cert.KernelIdeal.Gen
open Idealize.ShloMosaic Idealize.ShloMosaic.TcCoe Idealize.ShloMosaic.Tactic
variable {F : FTy → Type} [FloatOps F] [Named F]

/-- The newest write covers the whole shape, so a read gives its payload. -/
theorem cover_read {κ : Kind} {sp : Space} {S : Shape} {e : EltTy} (v : View sig κ sp S e) (f : v.ty.Contents (Elt F))
    {off : Fin S.rank → Nat} (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  obtain rfl : off = fun _ => 0 := funext h
  funext y
  refine View.read_writes_cons_hit_of_coords v f (Rect.unit (fun _ => 0) S.size inb) w L y y fun a => ?_
  show (y a).val = 0 + 1 * (y a).val
  omega

/-- Slot `q` of a two-slot buffer. -/
def slot {a b : ℕ} {e : EltTy} (X : Vec F ⟨3, ![2, a, b]⟩ e) (q : Fin 2) : Vec F ⟨3, ![1, a, b]⟩ e :=
  fun j => X (ValueIdx.ix3 q (j 1) (j 2))

/-- A load of one slot reads that slot. -/
theorem ld_slot {a b : ℕ} {e : EltTy} (X : Vec F ⟨3, ![2, a, b]⟩ e) (q : Fin 2) (off : Fin 3 → ℕ) (h : off = ![q.val, 0, 0])
    (inb : ∀ k, off k + (⟨3, ![1, a, b]⟩ : Shape).size k ≤ (⟨3, ![2, a, b]⟩ : Shape).size k) :
    View.ld (Val := Elt F) X (Rect.unit off (⟨3, ![1, a, b]⟩ : Shape).size inb) = slot X q := by
  subst h
  funext j
  show X _ = X _
  congr 1
  funext k
  apply Fin.ext
  have h0 : (j 0).val = 0 := by have := (j 0).isLt; change _ < 1 at this; omega
  match k with
  | ⟨0, _⟩ => show q.val + 1 * (j 0).val = q.val; omega
  | ⟨1, _⟩ => show 0 + 1 * (j 1).val = (j 1).val; omega
  | ⟨2, _⟩ => show 0 + 1 * (j 2).val = (j 2).val; omega

/-- A store of one slot leaves its payload in that slot. -/
theorem store_slot {κ : Kind} {sp : Space} {a b : ℕ} {e : EltTy} (v : View sig κ sp ⟨3, ![2, a, b]⟩ e) (f : v.ty.Contents (Elt F))
    (q : Fin 2) (off : Fin 3 → ℕ) (h : off = ![q.val, 0, 0])
    (inb : ∀ k, off k + (⟨3, ![1, a, b]⟩ : Shape).size k ≤ (⟨3, ![2, a, b]⟩ : Shape).size k)
    (w : Vec F ⟨3, ![1, a, b]⟩ e) :
    slot (v.read (Elt F) (v.writes (Elt F) f [⟨Rect.unit off (⟨3, ![1, a, b]⟩ : Shape).size inb, w⟩])) q = w := by
  subst h
  funext j
  have h0 : (j 0).val = 0 := by have := (j 0).isLt; change _ < 1 at this; omega
  refine View.read_writes_cons_hit_of_coords v f (Rect.unit ![q.val, 0, 0] (⟨3, ![1, a, b]⟩ : Shape).size inb) w [] j _ fun k => ?_
  match k with
  | ⟨0, _⟩ => show q.val = q.val + 1 * (j 0).val; omega
  | ⟨1, _⟩ => show (j 1).val = 0 + 1 * (j 1).val; omega
  | ⟨2, _⟩ => show (j 2).val = 0 + 1 * (j 2).val; omega

/-- A store of one slot keeps the other. -/
theorem store_slot_other {κ : Kind} {sp : Space} {a b : ℕ} {e : EltTy} (v : View sig κ sp ⟨3, ![2, a, b]⟩ e) (f : v.ty.Contents (Elt F))
    (q q' : Fin 2) (hq : q' ≠ q) (off : Fin 3 → ℕ) (h : off = ![q.val, 0, 0])
    (inb : ∀ k, off k + (⟨3, ![1, a, b]⟩ : Shape).size k ≤ (⟨3, ![2, a, b]⟩ : Shape).size k)
    (w : Vec F ⟨3, ![1, a, b]⟩ e) :
    slot (v.read (Elt F) (v.writes (Elt F) f [⟨Rect.unit off (⟨3, ![1, a, b]⟩ : Shape).size inb, w⟩])) q' = slot (v.read (Elt F) f) q' := by
  subst h
  funext j
  refine View.read_writes_cons_miss_of_axis v f _ [] _ 0 q.val 1 rfl rfl rfl ?_
  have : q'.val ≠ q.val := fun e => hq (Fin.ext e)
  show q'.val < q.val ∨ q.val + 1 ≤ q'.val
  omega

/-- The tile coordinate of a point is its parity. -/
theorem coord2 (t : Fin cfg0.N) : (grid0.coords t 2).val = t.val % 2 := by
  have e2 : (grid0.coords t 2).val = t.val / 1 % 2 := Pipeline.Grid.coords_val t 2 (by decide) rfl
  rw [e2, Nat.div_one]

/-- The slot the body addresses is the point's parity. -/
theorem off1_eq (t : Fin cfg0.N) (q : Fin 2) (h : t.val % 2 = q.val) : k0_off1 (grid0.coords t) = ![q.val, 0, 0] := by
  unfold k0_off1
  rw [coord2, h]
  match q with
  | ⟨0, _⟩ => rfl
  | ⟨1, _⟩ => rfl
/-- The slot the body addresses is the point's parity. -/
theorem off2_eq (t : Fin cfg0.N) (q : Fin 2) (h : t.val % 2 = q.val) : k0_off2 (grid0.coords t) = ![q.val, 0, 0] := by
  unfold k0_off2
  rw [coord2, h]
  match q with
  | ⟨0, _⟩ => rfl
  | ⟨1, _⟩ => rfl
/-- The slot the body addresses is the point's parity. -/
theorem off3_eq (t : Fin cfg0.N) (q : Fin 2) (h : t.val % 2 = q.val) : k0_off3 (grid0.coords t) = ![q.val, 0, 0] := by
  unfold k0_off3
  rw [coord2, h]
  match q with
  | ⟨0, _⟩ => rfl
  | ⟨1, _⟩ => rfl
/-- The slot the body addresses is the point's parity. -/
theorem off4_eq (t : Fin cfg0.N) (q : Fin 2) (h : t.val % 2 = q.val) : k0_off4 (grid0.coords t) = ![q.val, 0, 0] := by
  unfold k0_off4
  rw [coord2, h]
  match q with
  | ⟨0, _⟩ => rfl
  | ⟨1, _⟩ => rfl
/-- The slot the body addresses is the point's parity. -/
theorem off5_eq (t : Fin cfg0.N) (q : Fin 2) (h : t.val % 2 = q.val) : k0_off5 (grid0.coords t) = ![q.val, 0, 0] := by
  unfold k0_off5
  rw [coord2, h]
  match q with
  | ⟨0, _⟩ => rfl
  | ⟨1, _⟩ => rfl

/-- The instance ids. -/
abbrev ids : IVec S16x1 32 := iota Kind.tc S16x1 32 [0] iota_S16x1_d0_w32
/-- What the body at a point of case A leaves in scratch 0. -/
theorem stepA_s0 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    slot (stepA c t h x0 x1 x2 x3 xi4 σ).s0 0 = k0_pay25 x0 := by
  unfold stepA; dsimp only [written]
  frame_open
  refine (store_slot _ _ 0 _ (off1_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case A leaves in scratch 1. -/
theorem stepA_s1 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    slot (stepA c t h x0 x1 x2 x3 xi4 σ).s1 0 = k0_pay28 ids x1 := by
  unfold stepA; dsimp only [written]
  frame_open
  refine (store_slot _ _ 0 _ (off2_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case A leaves in scratch 4. -/
theorem stepA_s4 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    slot (stepA c t h x0 x1 x2 x3 xi4 σ).s4 0 = k0_pay5 (k0_pay30 ids x1) := by
  unfold stepA; dsimp only [written]
  frame_open
  refine (store_slot _ _ 0 _ (off3_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case A leaves in scratch 2. -/
theorem stepA_s2 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s2 = k0_pay29 ids x0 x1 k0_pay1 := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case A leaves in scratch 3. -/
theorem stepA_s3 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s3 = k0_pay4 (k0_pay31 ids x1 k0_pay2) := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case A leaves in scratch 7. -/
theorem stepA_s7 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s7 = k0_pay3 := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case A leaves in scratch 8. -/
theorem stepA_s8 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s8 = (fun _ => FloatOps.ofBits FTy.f32 0#32) := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case A leaves in scratch 9. -/
theorem stepA_s9 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s9 = (fun _ => FloatOps.ofBits FTy.f32 0#32) := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case A leaves in scratch 10. -/
theorem stepA_s10 (c : Dev nD) (t : Fin cfg0.N) (h : t.val = 0) (x0 : Vec F S1x8x256x512 .f32) (x1 : Vec F S1x1x256x512 .i32) (x2 : Vec F S1x2x256x512 .f32) (x3 : Vec F S1x256x512 .i32) (xi4 : Vec F S1x1 .f32) (σ : St F) :
    (stepA c t h x0 x1 x2 x3 xi4 σ).s10 = (fun _ => FloatOps.ofBits FTy.f32 0#32) := by
  unfold stepA; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case B leaves in scratch 0. -/
theorem stepB_s0 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s0 1 = k0_pay25 x0 := by
  unfold stepB; dsimp only [written]
  frame_open
  refine (store_slot _ _ 1 _ (off1_eq t 1 (by have := h; show _ = 1; omega)) _ _).trans ?_
  try simp (disch := decide) only [View.readAt_eq_ld, Memref.IsWhole.read_unread, read_unread_whole, View.ld_unit_lit', View.readCov_unit_lit', View.readCov_cons_unit_lit']
  try rfl

/-- The other slot is kept. -/
theorem stepB_s0o (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s0 0 = slot σ.s0 0 := by
  unfold stepB; dsimp only [written]
  frame_open
  refine (store_slot_other _ _ 1 0 (by decide) _ (off1_eq t 1 (by have := h; show _ = 1; omega)) _ _).trans ?_
  rw [read_unread_whole]

/-- What the body at a point of case B leaves in scratch 1. -/
theorem stepB_s1 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s1 1 = k0_pay28 ids x1 := by
  unfold stepB; dsimp only [written]
  frame_open
  refine (store_slot _ _ 1 _ (off2_eq t 1 (by have := h; show _ = 1; omega)) _ _).trans ?_
  try simp (disch := decide) only [View.readAt_eq_ld, Memref.IsWhole.read_unread, read_unread_whole, View.ld_unit_lit', View.readCov_unit_lit', View.readCov_cons_unit_lit']
  try rfl

/-- The other slot is kept. -/
theorem stepB_s1o (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s1 0 = slot σ.s1 0 := by
  unfold stepB; dsimp only [written]
  frame_open
  refine (store_slot_other _ _ 1 0 (by decide) _ (off2_eq t 1 (by have := h; show _ = 1; omega)) _ _).trans ?_
  rw [read_unread_whole]

/-- What the body at a point of case B leaves in scratch 4. -/
theorem stepB_s4 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s4 1 = k0_pay5 (k0_pay30 ids x1) := by
  unfold stepB; dsimp only [written]
  frame_open
  refine (store_slot _ _ 1 _ (off3_eq t 1 (by have := h; show _ = 1; omega)) _ _).trans ?_
  try simp (disch := decide) only [View.readAt_eq_ld, Memref.IsWhole.read_unread, read_unread_whole, View.ld_unit_lit', View.readCov_unit_lit', View.readCov_cons_unit_lit']
  try rfl

/-- The other slot is kept. -/
theorem stepB_s4o (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    slot (stepB c t h x0 x1 x2 x3 xi4 σ).s4 0 = slot σ.s4 0 := by
  unfold stepB; dsimp only [written]
  frame_open
  refine (store_slot_other _ _ 1 0 (by decide) _ (off3_eq t 1 (by have := h; show _ = 1; omega)) _ _).trans ?_
  rw [read_unread_whole]

/-- What the body at a point of case B leaves in scratch 2. -/
theorem stepB_s2 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    (stepB c t h x0 x1 x2 x3 xi4 σ).s2 = k0_pay29 ids x0 x1 σ.s2 := by
  unfold stepB; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case B leaves in scratch 3. -/
theorem stepB_s3 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    (stepB c t h x0 x1 x2 x3 xi4 σ).s3 = k0_pay4 (k0_pay31 ids x1 σ.s3) := by
  unfold stepB; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case E leaves in scratch 0. -/
theorem stepE_s0 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    slot (stepE c t h x0 x1 x2 x3 xi4 σ).s0 0 = k0_pay25 x0 := by
  unfold stepE; dsimp only [written]
  frame_open
  refine (store_slot _ _ 0 _ (off1_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case E leaves in scratch 1. -/
theorem stepE_s1 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    slot (stepE c t h x0 x1 x2 x3 xi4 σ).s1 0 = k0_pay28 ids x1 := by
  unfold stepE; dsimp only [written]
  frame_open
  refine (store_slot _ _ 0 _ (off2_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case E leaves in scratch 4. -/
theorem stepE_s4 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    slot (stepE c t h x0 x1 x2 x3 xi4 σ).s4 0 = k0_pay5 (k0_pay30 ids x1) := by
  unfold stepE; dsimp only [written]
  frame_open
  refine (store_slot _ _ 0 _ (off3_eq t 0 (by have := h; show _ = 0; omega)) _ _).trans ?_
  try simp (disch := decide) only [View.readAt_eq_ld, Memref.IsWhole.read_unread, read_unread_whole, View.ld_unit_lit', View.readCov_unit_lit', View.readCov_cons_unit_lit']
  try rfl

/-- What the body at a point of case E leaves in scratch 2. -/
theorem stepE_s2 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    (stepE c t h x0 x1 x2 x3 xi4 σ).s2 = k0_pay29 ids x0 x1 k0_pay1 := by
  unfold stepE; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case E leaves in scratch 3. -/
theorem stepE_s3 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    (stepE c t h x0 x1 x2 x3 xi4 σ).s3 = k0_pay4 (k0_pay31 ids x1 k0_pay2) := by
  unfold stepE; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case E leaves in scratch 7. -/
theorem stepE_s7 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    (stepE c t h x0 x1 x2 x3 xi4 σ).s7 = k0_pay3 := by
  unfold stepE; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case E leaves in scratch 8. -/
theorem stepE_s8 (c : Dev nD) (t : Fin cfg0.N) (h : t.val % 4 = 0 ∧ t.val ≠ 0) (x0 : Vec F S1x8x256x512 .f32) (x1 : Vec F S1x1x256x512 .i32) (x2 : Vec F S1x2x256x512 .f32) (x3 : Vec F S1x256x512 .i32) (xi4 : Vec F S1x1 .f32) (σ : St F) :
    (stepE c t h x0 x1 x2 x3 xi4 σ).s8 = (fun _ => FloatOps.ofBits FTy.f32 0#32) := by
  unfold stepE; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- What the body at a point of case B leaves in scratch 5. -/
theorem stepB_s5 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    (stepB c t h x0 x1 x2 x3 xi4 σ).s5 = k0_pay10 (k0_pay4 (k0_pay31 ids x1 σ.s3)) (k0_pay29 ids x0 x1 σ.s2) := by
  unfold stepB; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  try rfl

/-- The bounding window of each instance, from the column counts and the two slots of row counts. -/
abbrev rectOf (col : Vec F S16x512 .f32) (r0 r1 : Vec F S1x16x256 .f32) : FVec F S16x4 .f32 :=
  k0_pay6 (k0_pay13 col) (k0_pay21 k0_pay14 (k0_pay16 r0) k0_pay17 r1) (k0_pay22 k0_pay15 (k0_pay16 r0) k0_pay17 r1) (k0_pay23 (k0_pay12 col))

/-- What the body at a point of case B leaves in scratch 6. -/
theorem stepB_s6 (c : Dev nD) (t : Fin cfg0.N) (h : t.val % 4 = 1) (x0 : Vec F S1x8x256x512 .f32) (x1 : Vec F S1x1x256x512 .i32) (x2 : Vec F S1x2x256x512 .f32) (x3 : Vec F S1x256x512 .i32) (xi4 : Vec F S1x1 .f32) (σ : St F) :
    (stepB c t h x0 x1 x2 x3 xi4 σ).s6 = rectOf (k0_pay4 (k0_pay31 ids x1 σ.s3)) (slot σ.s4 0) (k0_pay5 (k0_pay30 ids x1)) := by
  unfold stepB; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  have e0 : View.ld (Val := Elt F) (View.read (Elt F) (View.whole cc0_scratch4) ((View.whole cc0_scratch4).writes (Elt F) ((Memref.isWhole_whole _ : scM0_4.IsWhole).unread σ.s4) [⟨Rect.unit (k0_off3 (grid0.coords t)) ![1, 16, 256] (k0_off3_inb (grid0.coords t) (cB2 t h)), k0_pay5 (k0_pay30 ids x1)⟩])) (Rect.unit ![0, 0, 0] ![1, 16, 256] inb_S2x16x256_S1x16x256_0_0_0) = slot σ.s4 0 := (ld_slot (F := F) (a := 16) (b := 256) _ 0 ![0, 0, 0] rfl _).trans
    ((store_slot_other (View.whole cc0_scratch4) _ 1 0 (by decide) _ (off3_eq t 1 (by have := h; show _ = 1; omega)) (k0_off3_inb (grid0.coords t) (cB2 t h)) _).trans (congrArg (fun X => slot X 0) (read_unread_whole _ _ _)))
  have e1 : View.ld (Val := Elt F) (View.read (Elt F) (View.whole cc0_scratch4) ((View.whole cc0_scratch4).writes (Elt F) ((Memref.isWhole_whole _ : scM0_4.IsWhole).unread σ.s4) [⟨Rect.unit (k0_off3 (grid0.coords t)) ![1, 16, 256] (k0_off3_inb (grid0.coords t) (cB2 t h)), k0_pay5 (k0_pay30 ids x1)⟩])) (Rect.unit ![1, 0, 0] ![1, 16, 256] inb_S2x16x256_S1x16x256_1_0_0) = k0_pay5 (k0_pay30 ids x1) := (ld_slot (F := F) (a := 16) (b := 256) _ 1 ![1, 0, 0] rfl _).trans
    (store_slot (View.whole cc0_scratch4) _ 1 _ (off3_eq t 1 (by have := h; show _ = 1; omega)) (k0_off3_inb (grid0.coords t) (cB2 t h)) _)
  have key : ∀ A B : Vec F S1x16x256 .f32, A = slot σ.s4 0 → B = k0_pay5 (k0_pay30 ids x1) →
      k0_pay6 (k0_pay13 (k0_pay4 (k0_pay31 ids x1 σ.s3))) (k0_pay21 k0_pay14 (k0_pay16 A) k0_pay17 B) (k0_pay22 k0_pay15 (k0_pay16 A) k0_pay17 B) (k0_pay23 (k0_pay12 (k0_pay4 (k0_pay31 ids x1 σ.s3)))) = rectOf (k0_pay4 (k0_pay31 ids x1 σ.s3)) (slot σ.s4 0) (k0_pay5 (k0_pay30 ids x1)) := by
    rintro _ _ rfl rfl; rfl
  exact key _ _ e0 e1

/-- The one cell of a scalar buffer. -/
theorem ld_cell (X : Vec F S1x1 .f32) (inb) (j) : View.ld (Val := Elt F) X (Rect.unit ![0, 0] ![1, 1] inb) j = X (ValueIdx.ix2 0 0) := by
  show X _ = X _
  congr 1
  funext k
  exact Fin.ext (by
    have h0 : (j 0).val = 0 := by have := (j 0).isLt; change _ < 1 at this; omega
    have h1 : (j 1).val = 0 := by have := (j 1).isLt; change _ < 1 at this; omega
    match k with
    | ⟨0, _⟩ => show 0 + 1 * (j 0).val = 0; omega
    | ⟨1, _⟩ => show 0 + 1 * (j 1).val = 0; omega)

/-- The first of the two seed maps. -/
theorem ld_x2a (x2 : Vec F S1x2x256x512 .f32) (inb) : View.ld (Val := Elt F) x2 (Rect.unit ![0, 0, 0, 0] ![1, 1, 256, 512] inb) = fun j => x2 (ValueIdx.ix4 0 0 (j 2) (j 3)) := by
  funext j
  show x2 _ = x2 _
  congr 1
  funext k
  apply Fin.ext
  have h0 : (j 0).val = 0 := by have := (j 0).isLt; change _ < 1 at this; omega
  have h1 : (j 1).val = 0 := by have := (j 1).isLt; change _ < 1 at this; omega
  match k with
  | ⟨0, _⟩ => show 0 + 1 * (j 0).val = 0; omega
  | ⟨1, _⟩ => show 0 + 1 * (j 1).val = 0; omega
  | ⟨2, _⟩ => show 0 + 1 * (j 2).val = (j 2).val; omega
  | ⟨3, _⟩ => show 0 + 1 * (j 3).val = (j 3).val; omega
/-- The second of the two seed maps. -/
theorem ld_x2b (x2 : Vec F S1x2x256x512 .f32) (inb) : View.ld (Val := Elt F) x2 (Rect.unit ![0, 1, 0, 0] ![1, 1, 256, 512] inb) = fun j => x2 (ValueIdx.ix4 0 1 (j 2) (j 3)) := by
  funext j
  show x2 _ = x2 _
  congr 1
  funext k
  apply Fin.ext
  have h0 : (j 0).val = 0 := by have := (j 0).isLt; change _ < 1 at this; omega
  have h1 : (j 1).val = 0 := by have := (j 1).isLt; change _ < 1 at this; omega
  match k with
  | ⟨0, _⟩ => show 0 + 1 * (j 0).val = 0; omega
  | ⟨1, _⟩ => show 1 + 1 * (j 1).val = 1; omega
  | ⟨2, _⟩ => show 0 + 1 * (j 2).val = (j 2).val; omega
  | ⟨3, _⟩ => show 0 + 1 * (j 3).val = (j 3).val; omega

/-- What the body at a point of case C leaves in scratch 7. -/
theorem stepC_s7 (c : Dev nD) (t : Fin cfg0.N) (h : t.val % 4 = 2) (x0 : Vec F S1x8x256x512 .f32) (x1 : Vec F S1x1x256x512 .i32) (x2 : Vec F S1x2x256x512 .f32) (x3 : Vec F S1x256x512 .i32) (xi4 : Vec F S1x1 .f32) (σ : St F) :
    (stepC c t h x0 x1 x2 x3 xi4 σ).s7 = k0_pay39 (BitVec.ofNat 32 0) (k0_pay35 (slot σ.s1 0)) σ.s6 (k0_pay37 σ.s6) (k0_pay38 σ.s6) σ.s7 := by
  unfold stepC; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 0 _ (off4_eq t 0 (by have := h; show _ = 0; omega)), ld_slot (F := F) (a := 16) (b := 131072) _ 0 _ (off5_eq t 0 (by have := h; show _ = 0; omega)), ld_x2a, ld_x2b, ld_cell, coord2, show t.val % 2 = 0 by have := h; omega]

/-- What the body at a point of case C leaves in scratch 8. -/
theorem stepC_s8 (c : Dev nD) (t : Fin cfg0.N) (h : t.val % 4 = 2) (x0 : Vec F S1x8x256x512 .f32) (x1 : Vec F S1x1x256x512 .i32) (x2 : Vec F S1x2x256x512 .f32) (x3 : Vec F S1x256x512 .i32) (xi4 : Vec F S1x1 .f32) (σ : St F) :
    (stepC c t h x0 x1 x2 x3 xi4 σ).s8 = fun _ => k0_pay36 (slot σ.s0 0) (slot σ.s1 0) σ.s5 (σ.s8 (ValueIdx.ix2 0 0)) := by
  unfold stepC; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 0 _ (off4_eq t 0 (by have := h; show _ = 0; omega)), ld_slot (F := F) (a := 16) (b := 131072) _ 0 _ (off5_eq t 0 (by have := h; show _ = 0; omega)), ld_x2a, ld_x2b, ld_cell, coord2, show t.val % 2 = 0 by have := h; omega]
  have c8 : View.ld (Val := Elt F) σ.s8 (Rect.unit ![0, 0] ![1, 1] inb_S1x1_S1x1_0_0) = fun _ => σ.s8 (ValueIdx.ix2 0 0) := funext fun j => ld_cell σ.s8 _ j
  rw [c8]
  try rfl

/-- What the body at a point of case C leaves in scratch 9. -/
theorem stepC_s9 (c : Dev nD) (t : Fin cfg0.N) (h : t.val % 4 = 2) (x0 : Vec F S1x8x256x512 .f32) (x1 : Vec F S1x1x256x512 .i32) (x2 : Vec F S1x2x256x512 .f32) (x3 : Vec F S1x256x512 .i32) (xi4 : Vec F S1x1 .f32) (σ : St F) :
    (stepC c t h x0 x1 x2 x3 xi4 σ).s9 = fun _ => k0_pay7 (k0_pay40 (fun j => x2 (ValueIdx.ix4 0 0 (j 2) (j 3)))) (k0_pay41 (fun j => x2 (ValueIdx.ix4 0 1 (j 2) (j 3)))) x3 (σ.s9 (ValueIdx.ix2 0 0)) := by
  unfold stepC; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 0 _ (off4_eq t 0 (by have := h; show _ = 0; omega)), ld_slot (F := F) (a := 16) (b := 131072) _ 0 _ (off5_eq t 0 (by have := h; show _ = 0; omega)), ld_x2a, ld_x2b, ld_cell, coord2, show t.val % 2 = 0 by have := h; omega]
  have c9 : View.ld (Val := Elt F) σ.s9 (Rect.unit ![0, 0] ![1, 1] inb_S1x1_S1x1_0_0) = fun _ => σ.s9 (ValueIdx.ix2 0 0) := funext fun j => ld_cell σ.s9 _ j
  rw [c9]
  try rfl

/-- What the body at a point of case D leaves in scratch 7. -/
theorem stepD_s7 (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) :
    (stepD c t h x0 x1 x2 x3 xi4 σ).s7 = k0_pay39 (BitVec.ofNat 32 1) (k0_pay35 (slot σ.s1 1)) σ.s6 (k0_pay37 σ.s6) (k0_pay38 σ.s6) σ.s7 := by
  unfold stepD; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 1 _ (off4_eq t 1 (by have := h; show _ = 1; omega)), ld_slot (F := F) (a := 16) (b := 131072) _ 1 _ (off5_eq t 1 (by have := h; show _ = 1; omega)), ld_x2a, ld_x2b, ld_cell, coord2, show t.val % 2 = 1 by have := h; omega]

/-- What the body at a point of case D leaves in scratch 8. -/
theorem stepD_s8 (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) :
    (stepD c t h x0 x1 x2 x3 xi4 σ).s8 = fun _ => k0_pay36 (slot σ.s0 1) (slot σ.s1 1) σ.s5 (σ.s8 (ValueIdx.ix2 0 0)) := by
  unfold stepD; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 1 _ (off4_eq t 1 (by have := h; show _ = 1; omega)), ld_slot (F := F) (a := 16) (b := 131072) _ 1 _ (off5_eq t 1 (by have := h; show _ = 1; omega)), ld_x2a, ld_x2b, ld_cell, coord2, show t.val % 2 = 1 by have := h; omega]
  have c8 : View.ld (Val := Elt F) σ.s8 (Rect.unit ![0, 0] ![1, 1] inb_S1x1_S1x1_0_0) = fun _ => σ.s8 (ValueIdx.ix2 0 0) := funext fun j => ld_cell σ.s8 _ j
  rw [c8]
  try rfl

/-- What the body at a point of case D leaves in scratch 9. -/
theorem stepD_s9 (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) :
    (stepD c t h x0 x1 x2 x3 xi4 σ).s9 = fun _ => k0_pay7 (k0_pay40 (fun j => x2 (ValueIdx.ix4 0 0 (j 2) (j 3)))) (k0_pay41 (fun j => x2 (ValueIdx.ix4 0 1 (j 2) (j 3)))) x3 (σ.s9 (ValueIdx.ix2 0 0)) := by
  unfold stepD; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 1 _ (off4_eq t 1 (by have := h; show _ = 1; omega)), ld_slot (F := F) (a := 16) (b := 131072) _ 1 _ (off5_eq t 1 (by have := h; show _ = 1; omega)), ld_x2a, ld_x2b, ld_cell, coord2, show t.val % 2 = 1 by have := h; omega]
  have c9 : View.ld (Val := Elt F) σ.s9 (Rect.unit ![0, 0] ![1, 1] inb_S1x1_S1x1_0_0) = fun _ => σ.s9 (ValueIdx.ix2 0 0) := funext fun j => ld_cell σ.s9 _ j
  rw [c9]
  try rfl

/-- What the body at a point of case D leaves in scratch 10. -/
theorem stepD_s10 (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) :
    (stepD c t h x0 x1 x2 x3 xi4 σ).s10 = fun _ => k0_pay8 (k0_pay32 σ.s5) (k0_pay33 (k0_pay39 (BitVec.ofNat 32 1) (k0_pay35 (slot σ.s1 1)) σ.s6 (k0_pay37 σ.s6) (k0_pay38 σ.s6) σ.s7)) k0_pay34 (FloatOps.ofBits FTy.f32 0#32) (σ.s10 (ValueIdx.ix2 0 0)) (k0_pay36 (slot σ.s0 1) (slot σ.s1 1) σ.s5 (σ.s8 (ValueIdx.ix2 0 0))) := by
  unfold stepD; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 1 _ (off4_eq t 1 (by have := h; show _ = 1; omega)), ld_slot (F := F) (a := 16) (b := 131072) _ 1 _ (off5_eq t 1 (by have := h; show _ = 1; omega)), ld_x2a, ld_x2b, ld_cell, coord2, show t.val % 2 = 1 by have := h; omega]
  have c8 : View.ld (Val := Elt F) σ.s8 (Rect.unit ![0, 0] ![1, 1] inb_S1x1_S1x1_0_0) = fun _ => σ.s8 (ValueIdx.ix2 0 0) := funext fun j => ld_cell σ.s8 _ j
  have c10 : View.ld (Val := Elt F) σ.s10 (Rect.unit ![0, 0] ![1, 1] inb_S1x1_S1x1_0_0) = fun _ => σ.s10 (ValueIdx.ix2 0 0) := funext fun j => ld_cell σ.s10 _ j
  rw [c8, c10]
  try rfl

/-- What the body at a point of case D leaves in scratch out. -/
theorem stepD_sout (c : Dev nD) (t : Fin cfg0.N) (h : t.val % 4 = 3) (x0 : Vec F S1x8x256x512 .f32) (x1 : Vec F S1x1x256x512 .i32) (x2 : Vec F S1x2x256x512 .f32) (x3 : Vec F S1x256x512 .i32) (xi4 : Vec F S1x1 .f32) (σ : St F) :
    outD c t h x0 x1 x2 x3 xi4 σ = fun _ => k0_pay9 (k0_pay7 (k0_pay40 (fun j => x2 (ValueIdx.ix4 0 0 (j 2) (j 3)))) (k0_pay41 (fun j => x2 (ValueIdx.ix4 0 1 (j 2) (j 3)))) x3 (σ.s9 (ValueIdx.ix2 0 0))) (k0_pay8 (k0_pay32 σ.s5) (k0_pay33 (k0_pay39 (BitVec.ofNat 32 1) (k0_pay35 (slot σ.s1 1)) σ.s6 (k0_pay37 σ.s6) (k0_pay38 σ.s6) σ.s7)) k0_pay34 (FloatOps.ofBits FTy.f32 0#32) (σ.s10 (ValueIdx.ix2 0 0)) (k0_pay36 (slot σ.s0 1) (slot σ.s1 1) σ.s5 (σ.s8 (ValueIdx.ix2 0 0)))) := by
  unfold outD; dsimp only [written]
  frame_open
  refine (cover_read _ _ _ _ _ (by decide)).trans ?_
  try simp (disch := decide) only [View.readAt_eq_ld, Memref.IsWhole.read_unread, read_unread_whole, View.ld_unit_lit', View.readCov_unit_lit', View.readCov_cons_unit_lit']
  simp only [ld_slot (F := F) (a := 8) (b := 131072) _ 1 _ (off4_eq t 1 (by have := h; show _ = 1; omega)), ld_slot (F := F) (a := 16) (b := 131072) _ 1 _ (off5_eq t 1 (by have := h; show _ = 1; omega)), ld_x2a, ld_x2b, ld_cell, coord2, show t.val % 2 = 1 by have := h; omega]
  have c8 : View.ld (Val := Elt F) σ.s8 (Rect.unit ![0, 0] ![1, 1] inb_S1x1_S1x1_0_0) = fun _ => σ.s8 (ValueIdx.ix2 0 0) := funext fun j => ld_cell σ.s8 _ j
  have c9 : View.ld (Val := Elt F) σ.s9 (Rect.unit ![0, 0] ![1, 1] inb_S1x1_S1x1_0_0) = fun _ => σ.s9 (ValueIdx.ix2 0 0) := funext fun j => ld_cell σ.s9 _ j
  have c10 : View.ld (Val := Elt F) σ.s10 (Rect.unit ![0, 0] ![1, 1] inb_S1x1_S1x1_0_0) = fun _ => σ.s10 (ValueIdx.ix2 0 0) := funext fun j => ld_cell σ.s10 _ j
  rw [c8, c9, c10]
  try rfl

end Cert.KernelIdeal.Hand
end
-- ==== Proof.Val.KerA.lean ====
module
public import proofs.«01_k».proof.Proof.Val.Bits
public import proofs.«01_k».proof.Proof.Val.Core
public import proofs.«01_k».proof.Proof.KernelIdealRun.StepVal
@[expose] public section
set_option maxRecDepth 16384
noncomputable section
namespace Cert.Val
open Idealize.ShloMosaic
open scoped BigOperators
open Cert.KernelIdeal Cert.KernelIdeal.Gen Cert.KernelIdeal.Hand

/-- The row of an image at a row of a strip. -/
def row (q : Fin 2) (r : Fin 256) : Fin 512 := ⟨256 * q.val + r.val, by omega⟩

/-- A sum over the two strips' rows is a sum over an image's rows. -/
theorem sum_rows (f : Fin 512 → EReal) : (∑ r : Fin 256, f (row 0 r)) + ∑ r : Fin 256, f (row 1 r) = ∑ y : Fin 512, f y := by
  rw [Fin.sum_univ_add (a := 256) (b := 256) f]
  congr 1

/-- A sum over a strip's lanes is a sum over its rows and columns. -/
theorem sum_strip (f : Fin 256 → Fin 512 → EReal) :
    ∑ p : Fin 131072, f ⟨p.val / 512, by omega⟩ ⟨p.val % 512, by omega⟩ = ∑ r : Fin 256, ∑ x : Fin 512, f r x := by
  rw [← Fintype.sum_prod_type' f]
  symm
  refine Fintype.sum_equiv ((finProdFinEquiv (m := 256) (n := 512)).trans (finCongr (by norm_num))) _ _ fun a => ?_
  obtain ⟨r, x⟩ := a
  show f r x = f ⟨(x.val + 512 * r.val) / 512, _⟩ ⟨(x.val + 512 * r.val) % 512, _⟩
  congr 1
  · refine Fin.ext ?_
    show r.val = (x.val + 512 * r.val) / 512
    omega
  · refine Fin.ext ?_
    show x.val = (x.val + 512 * r.val) % 512
    omega

/-- A sum over eight rows of lanes is a sum over the lanes. -/
theorem sum_lanes (f : Fin 131072 → EReal) :
    ∑ i : Fin 8, ∑ j : Fin 16384, f ⟨i.val * 16384 + j.val, by omega⟩ = ∑ p : Fin 131072, f p := by
  rw [← Fintype.sum_prod_type' (fun (i : Fin 8) (j : Fin 16384) => f ⟨i.val * 16384 + j.val, by omega⟩)]
  refine Fintype.sum_equiv ((finProdFinEquiv (m := 8) (n := 16384)).trans (finCongr (by norm_num))) _ _ fun a => ?_
  obtain ⟨r, x⟩ := a
  refine congrArg f (Fin.ext ?_)
  show r.val * 16384 + x.val = x.val + 16384 * r.val
  omega

/-- A bit widened and read as a number. -/
theorem sitofp_bit (b : BitVec 1) :
    (FloatOps.sitofp (F := Ideal) FTy.f32 (BitVec.setWidth 32 b) : EReal) = if b = 1#1 then 1 else 0 := by
  show (((BitVec.setWidth 32 b).toInt : ℝ) : EReal) = _
  rcases bit_cases b with rfl | rfl
  · rw [if_neg (by decide), show (BitVec.setWidth 32 (0#1)).toInt = 0 by decide]; simp
  · rw [if_pos rfl, show (BitVec.setWidth 32 (1#1)).toInt = 1 by decide]; simp

/-- The named square of the least norm. -/
theorem named_eps2 : (Named.named (F := Ideal) (φ := .f32) κ "eps2" 619091349#32 : EReal) = ((11258999 ^ 2 / 2 ^ 100 : ℝ) : EReal) := by
  show ((126765058482001 / 1267650600228229401496703205376 : ℝ) : EReal) = _
  norm_num

/-- The sixteen instance numbers are distinct words. -/
theorem ofNat_inj (j k : Fin 16) : BitVec.ofNat 32 j.val = BitVec.ofNat 32 k.val ↔ j = k := by
  revert j k; decide

variable (E : Fin 8 → Fin 512 → Fin 512 → EReal) (I : Fin 512 → Fin 512 → BitVec 32)

/-- A strip's instance mask. -/
theorem k_ind (V1 : Vec Ideal S1x1x256x512 .i32) (q : Fin 2)
    (h1 : ∀ r x, V1 (Idealize.ShloMosaic.ix4 0 0 r x) = I (row q r) x) (k : Fin 16) (p : Fin 131072) :
    k0_pay26 (F := Ideal) ids V1 (Idealize.ShloMosaic.ix2 k p)
      = if I (row q ⟨p.val / 512, by omega⟩) ⟨p.val % 512, by omega⟩ = BitVec.ofNat 32 k.val then (1 : EReal) else 0 := by
  pointwise [k0_pay26, ids]
  rw [sitofp_bit, h1]
  simp only [eq_one]

/-- A strip's instance mask at a row and a column. -/
theorem k_ind' (V1 : Vec Ideal S1x1x256x512 .i32) (q : Fin 2)
    (h1 : ∀ r x, V1 (Idealize.ShloMosaic.ix4 0 0 r x) = I (row q r) x) (k : Fin 16) (r : Fin 256) (x : Fin 512)
    (h : r.val * 512 + x.val < 131072) :
    k0_pay26 (F := Ideal) ids V1 (Idealize.ShloMosaic.ix2 k ⟨r.val * 512 + x.val, h⟩)
      = if I (row q r) x = BitVec.ofNat 32 k.val then (1 : EReal) else 0 := by
  rw [k_ind I V1 q h1]
  have e1 : (⟨(r.val * 512 + x.val) / 512, by omega⟩ : Fin 256) = r := Fin.ext (by show (r.val * 512 + x.val) / 512 = r.val; omega)
  have e2 : (⟨(r.val * 512 + x.val) % 512, by omega⟩ : Fin 512) = x := Fin.ext (by show (r.val * 512 + x.val) % 512 = x.val; omega)
  rw [e1, e2]

/-- A strip's embeddings. -/
theorem k_emb (V0 : Vec Ideal S1x8x256x512 .f32) (q : Fin 2)
    (h0 : ∀ d r x, V0 (Idealize.ShloMosaic.ix4 0 d r x) = E d (row q r) x) (d : Fin 8) (p : Fin 131072) :
    k0_pay24 (F := Ideal) V0 (Idealize.ShloMosaic.ix2 d p)
      = E d (row q ⟨p.val / 512, by omega⟩) ⟨p.val % 512, by omega⟩ := by
  pointwise [k0_pay24]
  rw [h0]

/-- A strip's sums join those of the strip before. -/
theorem k_sum1 (V0 : Vec Ideal S1x8x256x512 .f32) (V1 : Vec Ideal S1x1x256x512 .i32) (q : Fin 2)
    (h0 : ∀ d r x, V0 (Idealize.ShloMosaic.ix4 0 d r x) = E d (row q r) x)
    (h1 : ∀ r x, V1 (Idealize.ShloMosaic.ix4 0 0 r x) = I (row q r) x) (u : Vec Ideal S16x8 .f32) (k : Fin 16) (d : Fin 8) :
    k0_pay29 (F := Ideal) ids V0 V1 u (Idealize.ShloMosaic.ix2 k d)
      = u (Idealize.ShloMosaic.ix2 k d)
        + ∑ r : Fin 256, ∑ x : Fin 512, if I (row q r) x = BitVec.ofNat 32 k.val then E d (row q r) x else 0 := by
  pointwise [k0_pay29]
  rw [← sum_strip (fun r x => if I (row q r) x = BitVec.ofNat 32 k.val then E d (row q r) x else 0)]
  refine congrArg (u (Idealize.ShloMosaic.ix2 k d) + ·) ?_
  refine Finset.sum_congr rfl fun p _ => ?_
  rw [k_ind I V1 q h1, k_emb E V0 q h0]
  split <;> simp

/-- The two strips' sums are an image's. -/
theorem k_sums (V0 V0' : Vec Ideal S1x8x256x512 .f32) (V1 V1' : Vec Ideal S1x1x256x512 .i32)
    (h0 : ∀ d r x, V0 (Idealize.ShloMosaic.ix4 0 d r x) = E d (row 0 r) x)
    (h1 : ∀ r x, V1 (Idealize.ShloMosaic.ix4 0 0 r x) = I (row 0 r) x)
    (h0' : ∀ d r x, V0' (Idealize.ShloMosaic.ix4 0 d r x) = E d (row 1 r) x)
    (h1' : ∀ r x, V1' (Idealize.ShloMosaic.ix4 0 0 r x) = I (row 1 r) x) (k : Fin 16) (d : Fin 8) :
    k0_pay29 (F := Ideal) ids V0' V1' (k0_pay29 ids V0 V1 (k0_pay1 (F := Ideal))) (Idealize.ShloMosaic.ix2 k d) = sm E I k d := by
  rw [k_sum1 E I V0' V1' 1 h0' h1', k_sum1 E I V0 V1 0 h0 h1]
  pointwise [k0_pay1]
  exact sum_rows (fun y => ∑ x : Fin 512, if I y x = BitVec.ofNat 32 k.val then E d y x else 0)

/-- A strip's column counts join those of the strip before. -/
theorem k_col1 (V1 : Vec Ideal S1x1x256x512 .i32) (q : Fin 2)
    (h1 : ∀ r x, V1 (Idealize.ShloMosaic.ix4 0 0 r x) = I (row q r) x) (u : Vec Ideal S16x512 .f32) (k : Fin 16) (x : Fin 512) :
    k0_pay4 (F := Ideal) (k0_pay31 ids V1 u) (Idealize.ShloMosaic.ix2 k x)
      = u (Idealize.ShloMosaic.ix2 k x)
        + ∑ r : Fin 256, if I (row q r) x = BitVec.ofNat 32 k.val then (1 : EReal) else 0 := by
  pointwise [k0_pay31, k0_pay4, k0_pay30, k0_pay27]
  simp only [k_ind' I V1 q h1]

/-- How many pixels of a column carry instance `k`. -/
def col (k : Fin 16) (x : Fin 512) : EReal := ∑ y : Fin 512, if I y x = BitVec.ofNat 32 k.val then (1 : EReal) else 0
/-- How many pixels of a row carry instance `k`. -/
def rw' (k : Fin 16) (y : Fin 512) : EReal := ∑ x : Fin 512, if I y x = BitVec.ofNat 32 k.val then (1 : EReal) else 0

/-- The two strips' column counts are an image's. -/
theorem k_cols (V1 V1' : Vec Ideal S1x1x256x512 .i32)
    (h1 : ∀ r x, V1 (Idealize.ShloMosaic.ix4 0 0 r x) = I (row 0 r) x)
    (h1' : ∀ r x, V1' (Idealize.ShloMosaic.ix4 0 0 r x) = I (row 1 r) x) (k : Fin 16) (x : Fin 512) :
    k0_pay4 (F := Ideal) (k0_pay31 ids V1' (k0_pay4 (k0_pay31 ids V1 (k0_pay2 (F := Ideal))))) (Idealize.ShloMosaic.ix2 k x) = col I k x := by
  rw [k_col1 I V1' 1 h1', k_col1 I V1 0 h1]
  pointwise [k0_pay2]
  exact sum_rows (fun y => if I y x = BitVec.ofNat 32 k.val then (1 : EReal) else 0)

/-- A strip's row counts. -/
theorem k_rows (V1 : Vec Ideal S1x1x256x512 .i32) (q : Fin 2)
    (h1 : ∀ r x, V1 (Idealize.ShloMosaic.ix4 0 0 r x) = I (row q r) x) (k : Fin 16) (r : Fin 256) :
    k0_pay5 (F := Ideal) (k0_pay30 ids V1) (Idealize.ShloMosaic.ix3 0 k r) = rw' I k (row q r) := by
  pointwise [k0_pay30, k0_pay27, k0_pay5]
  simp only [k_ind' I V1 q h1]
  rfl

/-- The kernel's directions. -/
theorem k_kf (C : Vec Ideal S16x512 .f32) (S : Vec Ideal S16x8 .f32)
    (hC : ∀ k x, C (Idealize.ShloMosaic.ix2 k x) = col I k x) (hS : ∀ k d, S (Idealize.ShloMosaic.ix2 k d) = sm E I k d)
    (k : Fin 16) (d : Fin 8) :
    k0_pay10 (F := Ideal) C S (Idealize.ShloMosaic.ix2 k d) = kf E I k d := by
  have hc : ∑ x : Fin 512, C (Idealize.ShloMosaic.ix2 k x) = cnt I k := by
    simp only [hC]
    unfold col cnt
    exact Finset.sum_comm
  pointwise [k0_pay10]
  rw [hc]
  simp only [hS]
  rfl

/-- A strip's own directions. -/
theorem own_eq (d : Fin 8) (w : BitVec 32) (j : Fin 16) (hj : w = BitVec.ofNat 32 j.val)
    (hK : ∀ k, IsR (kf E I k d)) :
    (∑ k : Fin 16, kf E I k d * (if w = BitVec.ofNat 32 k.val then (1 : EReal) else 0))
      + ∑ k : Fin 16, (kf E I k d - kf E I k d) * (if w = BitVec.ofNat 32 k.val then (1 : EReal) else 0) = kf E I j d := by
  have h0 : ∀ k, kf E I k d - kf E I k d = 0 := by
    intro k
    obtain ⟨r, hr⟩ := hK k
    rw [hr, ← EReal.coe_sub, sub_self, EReal.coe_zero]
  simp only [h0, zero_mul, Finset.sum_const_zero, add_zero, hj, ofNat_inj, mul_ite, mul_one, mul_zero]
  rw [Finset.sum_ite_eq]
  simp

/-- A strip's part of the pull term joins that of the strip before. -/
theorem k_intra1 (V0 : Vec Ideal S1x8x256x512 .f32) (V1 : Vec Ideal S1x1x256x512 .i32) (q : Fin 2)
    (h0 : ∀ d r x, V0 (Idealize.ShloMosaic.ix4 0 d r x) = E d (row q r) x)
    (h1 : ∀ r x, V1 (Idealize.ShloMosaic.ix4 0 0 r x) = I (row q r) x) (K : Vec Ideal S16x8 .f32)
    (hK : ∀ k d, K (Idealize.ShloMosaic.ix2 k d) = kf E I k d) (hR : ∀ k d, IsR (kf E I k d))
    (J : Fin 512 → Fin 512 → Fin 16) (hJ : ∀ y x, I y x = BitVec.ofNat 32 (J y x).val) (z : EReal) :
    k0_pay36 (F := Ideal) (k0_pay25 V0) (k0_pay28 ids V1) K z
      = z + ∑ r : Fin 256, ∑ x : Fin 512,
          (Ideal.exp (1 - cosK (fun d => kf E I (J (row q r) x) d) (fun d => E d (row q r) x)) - 1) := by
  have he : ∀ d p, k0_pay25 (F := Ideal) V0 (Idealize.ShloMosaic.ix3 0 d p)
      = E d (row q ⟨p.val / 512, by omega⟩) ⟨p.val % 512, by omega⟩ := by
    intro d p
    pointwise [k0_pay25]
    exact k_emb E V0 q h0 d p
  have hi : ∀ k p, k0_pay28 (F := Ideal) ids V1 (Idealize.ShloMosaic.ix3 0 k p)
      = if I (row q ⟨p.val / 512, by omega⟩) ⟨p.val % 512, by omega⟩ = BitVec.ofNat 32 k.val then (1 : EReal) else 0 := by
    intro k p
    pointwise [k0_pay28, k0_pay27]
    exact k_ind I V1 q h1 k p
  rw [← sum_strip (fun r x => (Ideal.exp (1 - cosK (fun d => kf E I (J (row q r) x) d) (fun d => E d (row q r) x)) - 1)),
    ← sum_lanes]
  pointwise [k0_pay36, k0_pay35]
  simp only [he, hi, hK]
  refine congrArg (z + ·) ?_
  refine Finset.sum_congr rfl fun i _ => Finset.sum_congr rfl fun j _ => ?_
  have ho : ∀ d, _ := fun d => own_eq E I d _ _ (hJ (row q ⟨(i.val * 16384 + j.val) / 512, by omega⟩)
    ⟨(i.val * 16384 + j.val) % 512, by omega⟩) (fun k => hR k d)
  simp only [ho, named_eps2]
  rfl

end Cert.Val
end
-- ==== Proof.Val.KerB.lean ====
module
public import proofs.«01_k».proof.Proof.Val.KerA
@[expose] public section
set_option maxRecDepth 16384
noncomputable section
namespace Cert.Val
open Idealize.ShloMosaic
open scoped BigOperators
open Cert.KernelIdeal Cert.KernelIdeal.Gen Cert.KernelIdeal.Hand

/-- A natural number as a value. -/
def sf (n : ℕ) : EReal := ((n : ℝ) : EReal)

/-- Reading naturals as extended reals keeps their order. -/
theorem sf_le (a b : ℕ) : sf a ≤ sf b ↔ a ≤ b := by
  unfold sf; rw [EReal.coe_le_coe_iff, Nat.cast_le]
/-- Reading naturals as extended reals keeps their strict order. -/
theorem sf_lt (a b : ℕ) : sf a < sf b ↔ a < b := by
  unfold sf; rw [EReal.coe_lt_coe_iff, Nat.cast_lt]

/-- A small word read as a number. -/
theorem sitofp_nat (n : ℕ) (h : n < 2147483648) : (FloatOps.sitofp (F := Ideal) FTy.f32 (BitVec.ofNat 32 n) : EReal) = sf n := by
  show (((BitVec.ofNat 32 n).toInt : ℝ) : EReal) = _
  rw [toInt_small n h]; rfl

/-- The value of the word for plus infinity. -/
theorem bits_top : Ideal.ofBits .f32 0x7F800000#32 = ⊤ := by
  simp [Ideal.ofBits, Ideal.ieee]
/-- The value of the word for minus infinity. -/
theorem bits_bot : Ideal.ofBits .f32 0xFF800000#32 = ⊥ := by
  simp [Ideal.ofBits, Ideal.ieee]
/-- The value of the word for a thousand million. -/
theorem bits_big : Ideal.ofBits .f32 0x4E6E6B28#32 = ((1000000000 : ℝ) : EReal) := by
  simp [Ideal.ofBits, Ideal.ieee, -EReal.coe_mul]; norm_num
/-- The value of the word for minus a thousand million. -/
theorem bits_low : Ideal.ofBits .f32 0xCE6E6B28#32 = ((-1000000000 : ℝ) : EReal) := by
  simp [Ideal.ofBits, Ideal.ieee, -EReal.coe_mul, -EReal.coe_neg]; norm_num
/-- The value of the word for ten. -/
theorem bits_10 : Ideal.ofBits .f32 0x41200000#32 = ((10 : ℝ) : EReal) := by
  simp [Ideal.ofBits, Ideal.ieee, -EReal.coe_mul]; norm_num
/-- The value of the word for 502. -/
theorem bits_502 : Ideal.ofBits .f32 0x43FB0000#32 = ((502 : ℝ) : EReal) := by
  simp [Ideal.ofBits, Ideal.ieee, -EReal.coe_mul]; norm_num
/-- The value of the word for 512. -/
theorem bits_512 : Ideal.ofBits .f32 0x44000000#32 = ((512 : ℝ) : EReal) := by
  simp [Ideal.ofBits, Ideal.ieee, -EReal.coe_mul]; norm_num
/-- The value of the word for nine. -/
theorem bits_9 : Ideal.ofBits .f32 0x41100000#32 = ((9 : ℝ) : EReal) := by
  simp [Ideal.ofBits, Ideal.ieee, -EReal.coe_mul]; norm_num

/-- The lower edge of a window lies at or below a coordinate exactly where the least occupied one is within ten. -/
theorem elow (m : EReal) (x : ℕ) : (if ((10 : ℝ) : EReal) < m then m - ((10 : ℝ) : EReal) else 0) ≤ sf x ↔ m ≤ sf (x + 10) := by
  unfold sf
  induction m using EReal.rec with
  | bot => simp
  | top =>
    rw [if_pos (EReal.coe_lt_top _), EReal.top_sub_coe]
    constructor <;> intro h <;> exact absurd (top_le_iff.mp h) (EReal.coe_ne_top _)
  | coe r =>
    by_cases hlt : (10 : ℝ) < r
    · rw [if_pos (EReal.coe_lt_coe_iff.mpr hlt), ← EReal.coe_sub, EReal.coe_le_coe_iff, EReal.coe_le_coe_iff]
      push_cast; constructor <;> intro <;> linarith
    · rw [if_neg (fun h => hlt (EReal.coe_lt_coe_iff.mp h)), ← EReal.coe_zero, EReal.coe_le_coe_iff, EReal.coe_le_coe_iff]
      push_cast
      have : (0 : ℝ) ≤ (x : ℝ) := Nat.cast_nonneg x
      constructor <;> intro <;> linarith

/-- The upper edge of a window lies above a coordinate exactly where the greatest occupied one is within ten. -/
theorem ehigh (m : EReal) (x : ℕ) (hx : x < 512) :
    sf x < (if m < ((502 : ℝ) : EReal) then m + ((10 : ℝ) : EReal) else ((512 : ℝ) : EReal)) ↔ (((x : ℝ) - 10 : ℝ) : EReal) < m := by
  have hx' : (x : ℝ) < 512 := by exact_mod_cast hx
  unfold sf
  induction m using EReal.rec with
  | bot => simp
  | top => simp [hx', ← EReal.coe_sub, EReal.coe_lt_top, -EReal.coe_sub]; exact_mod_cast hx
  | coe r =>
    by_cases hlt : r < (502 : ℝ)
    · rw [if_pos (EReal.coe_lt_coe_iff.mpr hlt), ← EReal.coe_add, EReal.coe_lt_coe_iff, EReal.coe_lt_coe_iff]
      constructor <;> intro <;> linarith
    · rw [if_neg (fun h => hlt (EReal.coe_lt_coe_iff.mp h)), EReal.coe_lt_coe_iff, EReal.coe_lt_coe_iff]
      constructor <;> intro <;> linarith

/-- The least occupied coordinate is at most a bound exactly where an occupied one is. -/
theorem fmin {n : ℕ} (c : Fin n → EReal) (g : Fin n → ℕ) (t : ℕ) (ht : t < 1000000000) :
    Finset.fold min ⊤ (fun x => if 0 < c x then sf (g x) else ((1000000000 : ℝ) : EReal)) Finset.univ ≤ sf t
      ↔ ∃ x, 0 < c x ∧ g x ≤ t := by
  rw [Finset.fold_min_le]
  constructor
  · rintro (h | ⟨x, _, h⟩)
    · exact absurd (lt_of_lt_of_le (EReal.coe_lt_top (t : ℝ)) h) (lt_irrefl _)
    · split at h
      · exact ⟨x, by assumption, (sf_le _ _).mp h⟩
      · have : (1000000000 : ℝ) ≤ (t : ℝ) := EReal.coe_le_coe_iff.mp h
        have : (1000000000 : ℕ) ≤ t := by exact_mod_cast this
        omega
  · rintro ⟨x, h, hg⟩
    exact Or.inr ⟨x, Finset.mem_univ _, by rw [if_pos h]; exact (sf_le _ _).mpr hg⟩

/-- The greatest occupied coordinate exceeds a bound exactly where an occupied one does. -/
theorem fmax {n : ℕ} (c : Fin n → EReal) (g : Fin n → ℕ) (t : ℕ) :
    (((t : ℝ) - 10 : ℝ) : EReal) < Finset.fold max ⊥ (fun x => if 0 < c x then sf (g x) else ((-1000000000 : ℝ) : EReal)) Finset.univ
      ↔ ∃ x, 0 < c x ∧ t < g x + 10 := by
  have key : ∀ a : ℕ, (((t : ℝ) - 10 : ℝ) : EReal) < sf a ↔ t < a + 10 := by
    intro a
    unfold sf
    rw [EReal.coe_lt_coe_iff, sub_lt_iff_lt_add]
    exact_mod_cast Iff.rfl
  rw [Finset.lt_fold_max]
  constructor
  · rintro (h | ⟨x, _, h⟩)
    · exact absurd h not_lt_bot
    · split at h
      · exact ⟨x, by assumption, (key _).mp h⟩
      · have h2 := EReal.coe_lt_coe_iff.mp h
        have : (0 : ℝ) ≤ (t : ℝ) := Nat.cast_nonneg t
        linarith
  · rintro ⟨x, h, hg⟩
    exact Or.inr ⟨x, Finset.mem_univ _, by rw [if_pos h]; exact (key _).mpr hg⟩

/-- A count is positive exactly where something is counted. -/
theorem ind_pos {ι : Type} [Fintype ι] (p : ι → Prop) [DecidablePred p] : 0 < ∑ i, (if p i then (1 : EReal) else 0) ↔ ∃ i, p i := by
  constructor
  · intro h
    by_contra hn
    push Not at hn
    simp [hn] at h
  · rintro ⟨i, hi⟩
    refine lt_of_lt_of_le zero_lt_one ?_
    have := Finset.single_le_sum (f := fun i => if p i then (1 : EReal) else 0) (s := Finset.univ)
      (fun j _ => by split <;> simp) (Finset.mem_univ i)
    simpa [hi] using this

variable (I : Fin 512 → Fin 512 → BitVec 32)

/-- A column is occupied. -/
theorem col_pos (k : Fin 16) (x : Fin 512) : 0 < col I k x ↔ ∃ y, I y x = BitVec.ofNat 32 k.val :=
  ind_pos (fun y : Fin 512 => I y x = BitVec.ofNat 32 k.val)
/-- A row is occupied. -/
theorem row_pos (k : Fin 16) (y : Fin 512) : 0 < rw' I k y ↔ ∃ x, I y x = BitVec.ofNat 32 k.val :=
  ind_pos (fun x : Fin 512 => I y x = BitVec.ofNat 32 k.val)

section
variable (C : Vec Ideal S16x512 .f32) (r0 r1 : Vec Ideal S1x16x256 .f32) (k : Fin 16)
  (hC : ∀ k x, C (Idealize.ShloMosaic.ix2 k x) = col I k x)
  (hr0 : ∀ k r, r0 (Idealize.ShloMosaic.ix3 0 k r) = rw' I k (row 0 r))
  (hr1 : ∀ k r, r1 (Idealize.ShloMosaic.ix3 0 k r) = rw' I k (row 1 r))
include hC

/-- The left edge of the kernel's window. -/
theorem rect0 (x : Fin 512) : rectOf (F := Ideal) C r0 r1 (Idealize.ShloMosaic.ix2 k 0) ≤ sf x.val
    ↔ ∃ y' x' : Fin 512, I y' x' = BitVec.ofNat 32 k.val ∧ x'.val ≤ x.val + 10 := by
  have e : rectOf (F := Ideal) C r0 r1 (Idealize.ShloMosaic.ix2 k 0)
      = k0_pay23 (k0_pay12 C) (Idealize.ShloMosaic.ix2 k 0) := by
    pointwise [rectOf, k0_pay6]
  have e2 : k0_pay12 (F := Ideal) C (Idealize.ShloMosaic.ix2 k 0)
      = Finset.fold min ⊤ (fun x : Fin 512 => if 0 < C (Idealize.ShloMosaic.ix2 k x) then sf x.val else ((1000000000 : ℝ) : EReal)) Finset.univ := by
    pointwise [k0_pay12, k0_pay11]
    rw [← bits_top, ← bits_big]
    refine congrArg (fun f => Finset.fold min _ f Finset.univ) (funext fun x => ?_)
    rw [sitofp_nat _ (by omega)]
  have e3 : ∀ u : FVec Ideal S16x1 .f32, k0_pay23 (F := Ideal) u (Idealize.ShloMosaic.ix2 k 0)
      = if ((10 : ℝ) : EReal) < u (Idealize.ShloMosaic.ix2 k 0) then u (Idealize.ShloMosaic.ix2 k 0) - ((10 : ℝ) : EReal) else 0 := by
    intro u
    rw [← bits_10]
    pointwise [k0_pay23]
  rw [e, e3, elow, e2, fmin _ _ _ (by omega)]
  simp only [hC, col_pos]
  exact ⟨fun ⟨x', ⟨y', h⟩, hx⟩ => ⟨y', x', h, hx⟩, fun ⟨y', x', h, hx⟩ => ⟨x', ⟨y', h⟩, hx⟩⟩

/-- The right edge of the kernel's window. -/
theorem rect1 (x : Fin 512) : sf x.val < rectOf (F := Ideal) C r0 r1 (Idealize.ShloMosaic.ix2 k 1)
    ↔ ∃ y' x' : Fin 512, I y' x' = BitVec.ofNat 32 k.val ∧ x.val < x'.val + 10 := by
  have e : rectOf (F := Ideal) C r0 r1 (Idealize.ShloMosaic.ix2 k 1)
      = if k0_pay13 (F := Ideal) C (Idealize.ShloMosaic.ix2 k 0) < ((502 : ℝ) : EReal)
        then k0_pay13 C (Idealize.ShloMosaic.ix2 k 0) + ((10 : ℝ) : EReal) else ((512 : ℝ) : EReal) := by
    rw [← bits_10, ← bits_502, ← bits_512]
    pointwise [rectOf, k0_pay6]
  have e2 : k0_pay13 (F := Ideal) C (Idealize.ShloMosaic.ix2 k 0)
      = Finset.fold max ⊥ (fun x : Fin 512 => if 0 < C (Idealize.ShloMosaic.ix2 k x) then sf x.val else ((-1000000000 : ℝ) : EReal)) Finset.univ := by
    pointwise [k0_pay13, k0_pay11]
    rw [← bits_bot, ← bits_low]
    refine congrArg (fun f => Finset.fold max _ f Finset.univ) (funext fun x => ?_)
    rw [sitofp_nat _ (by omega)]
  rw [e, ehigh _ _ x.isLt, e2, fmax]
  simp only [hC, col_pos]
  exact ⟨fun ⟨x', ⟨y', h⟩, hx⟩ => ⟨y', x', h, hx⟩, fun ⟨y', x', h, hx⟩ => ⟨x', ⟨y', h⟩, hx⟩⟩
include hr0 hr1
omit hC

/-- The top edge of the kernel's window. -/
theorem rect2 (y : Fin 512) : rectOf (F := Ideal) C r0 r1 (Idealize.ShloMosaic.ix2 k 2) ≤ sf y.val
    ↔ ∃ y' x' : Fin 512, I y' x' = BitVec.ofNat 32 k.val ∧ y'.val ≤ y.val + 10 := by
  have e : rectOf (F := Ideal) C r0 r1 (Idealize.ShloMosaic.ix2 k 2)
      = if ((10 : ℝ) : EReal) < k0_pay21 (F := Ideal) k0_pay14 (k0_pay16 r0) k0_pay17 r1 (Idealize.ShloMosaic.ix2 k 0)
        then k0_pay21 (F := Ideal) k0_pay14 (k0_pay16 r0) k0_pay17 r1 (Idealize.ShloMosaic.ix2 k 0) - ((10 : ℝ) : EReal) else 0 := by
    rw [← bits_10]
    pointwise [rectOf, k0_pay6]
  have e2 : k0_pay21 (F := Ideal) k0_pay14 (k0_pay16 r0) k0_pay17 r1 (Idealize.ShloMosaic.ix2 k 0)
      = min (min ((1000000000 : ℝ) : EReal)
          (Finset.fold min ⊤ (fun r : Fin 256 => if 0 < r0 (Idealize.ShloMosaic.ix3 0 k r) then sf r.val else ((1000000000 : ℝ) : EReal)) Finset.univ))
          (Finset.fold min ⊤ (fun r : Fin 256 => if 0 < r1 (Idealize.ShloMosaic.ix3 0 k r) then sf (r.val + 256) else ((1000000000 : ℝ) : EReal)) Finset.univ) := by
    pointwise [k0_pay21, k0_pay14, k0_pay16, k0_pay17, k0_pay18, k0_pay19, k0_pay20]
    rw [← bits_top, ← bits_big]
    refine congrArg₂ min (congrArg₂ min rfl (congrArg (fun f => Finset.fold min _ f Finset.univ) (funext fun r => ?_)))
      (congrArg (fun f => Finset.fold min _ f Finset.univ) (funext fun r => ?_))
    · rw [show IntOp.addi (BitVec.ofNat 32 r.val) 0#32 = BitVec.ofNat 32 r.val from BitVec.add_zero _, sitofp_nat _ (by omega)]
    · rw [show IntOp.addi (BitVec.ofNat 32 r.val) 256#32 = BitVec.ofNat 32 (r.val + 256) from (BitVec.ofNat_add _ _).symm, sitofp_nat _ (by omega)]
  rw [e, elow, e2, min_le_iff, min_le_iff, fmin _ _ _ (by omega), fmin _ _ _ (by omega)]
  simp only [hr0, hr1, row_pos]
  constructor
  · rintro ((h | ⟨r, ⟨x, h⟩, hr⟩) | ⟨r, ⟨x, h⟩, hr⟩)
    · exfalso
      have h' : (1000000000 : ℝ) ≤ ((y.val + 10 : ℕ) : ℝ) := EReal.coe_le_coe_iff.mp h
      have : (1000000000 : ℕ) ≤ y.val + 10 := by exact_mod_cast h'
      omega
    · exact ⟨row 0 r, x, h, by show 256 * 0 + r.val ≤ _; omega⟩
    · exact ⟨row 1 r, x, h, by show 256 * 1 + r.val ≤ _; omega⟩
  · rintro ⟨y', x, h, hy⟩
    by_cases hlt : y'.val < 256
    · have : row 0 ⟨y'.val, hlt⟩ = y' := Fin.ext (by show 256 * 0 + y'.val = y'.val; omega)
      exact Or.inl (Or.inr ⟨⟨y'.val, hlt⟩, ⟨x, by rw [this]; exact h⟩, hy⟩)
    · have : row 1 ⟨y'.val - 256, by omega⟩ = y' := Fin.ext (by show 256 * 1 + (y'.val - 256) = y'.val; omega)
      exact Or.inr ⟨⟨y'.val - 256, by omega⟩, ⟨x, by rw [this]; exact h⟩, by show y'.val - 256 + 256 ≤ _; omega⟩

/-- The bottom edge of the kernel's window. -/
theorem rect3 (y : Fin 512) : sf y.val < rectOf (F := Ideal) C r0 r1 (Idealize.ShloMosaic.ix2 k 3)
    ↔ ∃ y' x' : Fin 512, I y' x' = BitVec.ofNat 32 k.val ∧ y.val < y'.val + 10 := by
  have e : rectOf (F := Ideal) C r0 r1 (Idealize.ShloMosaic.ix2 k 3)
      = if k0_pay22 (F := Ideal) k0_pay15 (k0_pay16 r0) k0_pay17 r1 (Idealize.ShloMosaic.ix2 k 0) < ((502 : ℝ) : EReal)
        then k0_pay22 (F := Ideal) k0_pay15 (k0_pay16 r0) k0_pay17 r1 (Idealize.ShloMosaic.ix2 k 0) + ((10 : ℝ) : EReal) else ((512 : ℝ) : EReal) := by
    rw [← bits_10, ← bits_502, ← bits_512]
    pointwise [rectOf, k0_pay6]
  have e2 : k0_pay22 (F := Ideal) k0_pay15 (k0_pay16 r0) k0_pay17 r1 (Idealize.ShloMosaic.ix2 k 0)
      = max (max ((-1000000000 : ℝ) : EReal)
          (Finset.fold max ⊥ (fun r : Fin 256 => if 0 < r0 (Idealize.ShloMosaic.ix3 0 k r) then sf r.val else ((-1000000000 : ℝ) : EReal)) Finset.univ))
          (Finset.fold max ⊥ (fun r : Fin 256 => if 0 < r1 (Idealize.ShloMosaic.ix3 0 k r) then sf (r.val + 256) else ((-1000000000 : ℝ) : EReal)) Finset.univ) := by
    pointwise [k0_pay22, k0_pay15, k0_pay16, k0_pay17, k0_pay18, k0_pay19, k0_pay20]
    rw [← bits_bot, ← bits_low]
    refine congrArg₂ max (congrArg₂ max rfl (congrArg (fun f => Finset.fold max _ f Finset.univ) (funext fun r => ?_)))
      (congrArg (fun f => Finset.fold max _ f Finset.univ) (funext fun r => ?_))
    · rw [show IntOp.addi (BitVec.ofNat 32 r.val) 0#32 = BitVec.ofNat 32 r.val from BitVec.add_zero _, sitofp_nat _ (by omega)]
    · rw [show IntOp.addi (BitVec.ofNat 32 r.val) 256#32 = BitVec.ofNat 32 (r.val + 256) from (BitVec.ofNat_add _ _).symm, sitofp_nat _ (by omega)]
  rw [e, ehigh _ _ y.isLt, e2, lt_max_iff, lt_max_iff, fmax, fmax]
  simp only [hr0, hr1, row_pos]
  constructor
  · rintro ((h | ⟨r, ⟨x, h⟩, hr⟩) | ⟨r, ⟨x, h⟩, hr⟩)
    · exfalso
      have h' := EReal.coe_lt_coe_iff.mp h
      have : (0 : ℝ) ≤ (y.val : ℝ) := Nat.cast_nonneg _
      linarith
    · exact ⟨row 0 r, x, h, by show _ < 256 * 0 + r.val + 10; omega⟩
    · exact ⟨row 1 r, x, h, by show _ < 256 * 1 + r.val + 10; omega⟩
  · rintro ⟨y', x, h, hy⟩
    by_cases hlt : y'.val < 256
    · have : row 0 ⟨y'.val, hlt⟩ = y' := Fin.ext (by show 256 * 0 + y'.val = y'.val; omega)
      exact Or.inl (Or.inr ⟨⟨y'.val, hlt⟩, ⟨x, by rw [this]; exact h⟩, hy⟩)
    · have : row 1 ⟨y'.val - 256, by omega⟩ = y' := Fin.ext (by show 256 * 1 + (y'.val - 256) = y'.val; omega)
      exact Or.inr ⟨⟨y'.val - 256, by omega⟩, ⟨x, by rw [this]; exact h⟩, by show _ < y'.val - 256 + 256 + 10; omega⟩

end

/-- The kernel's window of an instance is the window. -/
theorem rect_W (C : Vec Ideal S16x512 .f32) (r0 r1 : Vec Ideal S1x16x256 .f32) (k : Fin 16)
    (hC : ∀ k x, C (Idealize.ShloMosaic.ix2 k x) = col I k x)
    (hr0 : ∀ k r, r0 (Idealize.ShloMosaic.ix3 0 k r) = rw' I k (row 0 r))
    (hr1 : ∀ k r, r1 (Idealize.ShloMosaic.ix3 0 k r) = rw' I k (row 1 r)) (y x : Fin 512) :
    ((rectOf (F := Ideal) C r0 r1 (Idealize.ShloMosaic.ix2 k 2) ≤ sf y.val ∧ sf y.val < rectOf (F := Ideal) C r0 r1 (Idealize.ShloMosaic.ix2 k 3)) ∧
     (rectOf (F := Ideal) C r0 r1 (Idealize.ShloMosaic.ix2 k 0) ≤ sf x.val ∧ sf x.val < rectOf (F := Ideal) C r0 r1 (Idealize.ShloMosaic.ix2 k 1))) ↔ W I k y x := by
  rw [rect2 I C r0 r1 k hr0 hr1, rect3 I C r0 r1 k hr0 hr1, rect0 I C r0 r1 k hC, rect1 I C r0 r1 k hC]
  rfl

open Classical in
/-- A strip's co-occurrence counts join those of the strip before. -/
theorem k_cm1 (q : Fin 2) (R : Vec Ideal S16x4 .f32) (V1 : Vec Ideal S1x1x256x512 .i32)
    (h1 : ∀ r x, V1 (Idealize.ShloMosaic.ix4 0 0 r x) = I (row q r) x)
    (hR : ∀ (k : Fin 16) (y x : Fin 512),
      ((R (Idealize.ShloMosaic.ix2 k 2) ≤ sf y.val ∧ sf y.val < R (Idealize.ShloMosaic.ix2 k 3)) ∧
       (R (Idealize.ShloMosaic.ix2 k 0) ≤ sf x.val ∧ sf x.val < R (Idealize.ShloMosaic.ix2 k 1))) ↔ W I k y x)
    (u : Vec Ideal S16x16 .f32) (k l : Fin 16) :
    k0_pay39 (F := Ideal) (BitVec.ofNat 32 q.val) (k0_pay35 (k0_pay28 ids V1)) R (k0_pay37 R) (k0_pay38 R) u (Idealize.ShloMosaic.ix2 k l)
      = u (Idealize.ShloMosaic.ix2 k l)
        + ∑ r : Fin 256, ∑ x : Fin 512, if W I k (row q r) x ∧ I (row q r) x = BitVec.ofNat 32 l.val then (1 : EReal) else 0 := by
  have hi : ∀ k p, k0_pay28 (F := Ideal) ids V1 (Idealize.ShloMosaic.ix3 0 k p)
      = if I (row q ⟨p.val / 512, by omega⟩) ⟨p.val % 512, by omega⟩ = BitVec.ofNat 32 k.val then (1 : EReal) else 0 := by
    intro k p
    pointwise [k0_pay28, k0_pay27]
    exact k_ind I V1 q h1 k p
  rw [← sum_strip (fun r x => if W I k (row q r) x ∧ I (row q r) x = BitVec.ofNat 32 l.val then (1 : EReal) else 0)]
  pointwise [k0_pay39, k0_pay37, k0_pay38, k0_pay35]
  simp only [hi]
  refine congrArg (u (Idealize.ShloMosaic.ix2 k l) + ·) ?_
  refine Finset.sum_congr rfl fun p _ => ?_
  have ey : IntOp.addi (BitVec.ofNat 32 (p.val / 512)) (Scalar.muli (BitVec.ofNat 32 q.val) 256#32) = BitVec.ofNat 32 (row q ⟨p.val / 512, by omega⟩).val := by
    show BitVec.ofNat 32 (p.val / 512) + BitVec.ofNat 32 q.val * BitVec.ofNat 32 256 = BitVec.ofNat 32 (256 * q.val + p.val / 512)
    rw [← BitVec.ofNat_mul, ← BitVec.ofNat_add]
    congr 1; omega
  rw [ey, sitofp_nat _ (by omega), sitofp_nat _ (by omega), sitofp_bit, sitofp_bit]
  simp only [andi_one, ofBool_one, decide_eq_true_eq]
  have hw := hR k (row q ⟨p.val / 512, by omega⟩) ⟨p.val % 512, by omega⟩
  by_cases ha : R (Idealize.ShloMosaic.ix2 k 2) ≤ sf (row q ⟨p.val / 512, by omega⟩).val ∧ sf (row q ⟨p.val / 512, by omega⟩).val < R (Idealize.ShloMosaic.ix2 k 3)
  · by_cases hb : R (Idealize.ShloMosaic.ix2 k 0) ≤ sf (p.val % 512) ∧ sf (p.val % 512) < R (Idealize.ShloMosaic.ix2 k 1)
    · rw [if_pos ha, if_pos hb, one_mul, one_mul]
      exact if_congr ⟨fun h => ⟨hw.mp ⟨ha, hb⟩, h⟩, fun h => h.2⟩ rfl rfl
    · rw [if_neg hb, mul_zero, zero_mul, if_neg (fun h => hb (hw.mpr h.1).2)]
  · rw [if_neg ha, zero_mul, zero_mul, if_neg (fun h => ha (hw.mpr h.1).1)]

end Cert.Val
end
-- ==== Proof.Val.KerC.lean ====
module
public import proofs.«01_k».proof.Proof.Val.KerB
@[expose] public section
set_option maxRecDepth 16384
noncomputable section
namespace Cert.Val
open Idealize.ShloMosaic
open scoped BigOperators
open Cert.KernelIdeal Cert.KernelIdeal.Gen Cert.KernelIdeal.Hand

variable (E : Fin 8 → Fin 512 → Fin 512 → EReal) (I : Fin 512 → Fin 512 → BitVec 32)

/-- A sum that starts at nought. -/
theorem add_start {v u z b c d : EReal} (h1 : v = u + c) (h2 : u = z + b) (h0 : z = 0) (hs : b + c = d) : v = d := by
  rw [h1, h2, h0, zero_add, hs]

open Classical in
/-- The two strips' co-occurrence counts are an image's. -/
theorem k_cms (C : Vec Ideal S16x512 .f32) (r0 r1 : Vec Ideal S1x16x256 .f32)
    (hC : ∀ k x, C (Idealize.ShloMosaic.ix2 k x) = col I k x)
    (hr0 : ∀ k r, r0 (Idealize.ShloMosaic.ix3 0 k r) = rw' I k (row 0 r))
    (hr1 : ∀ k r, r1 (Idealize.ShloMosaic.ix3 0 k r) = rw' I k (row 1 r)) (V1 V1' : Vec Ideal S1x1x256x512 .i32)
    (h1 : ∀ r x, V1 (Idealize.ShloMosaic.ix4 0 0 r x) = I (row 0 r) x)
    (h1' : ∀ r x, V1' (Idealize.ShloMosaic.ix4 0 0 r x) = I (row 1 r) x) (k l : Fin 16) :
    k0_pay39 (F := Ideal) (BitVec.ofNat 32 1) (k0_pay35 (k0_pay28 ids V1')) (rectOf C r0 r1) (k0_pay37 (rectOf C r0 r1)) (k0_pay38 (rectOf C r0 r1))
      (k0_pay39 (F := Ideal) (BitVec.ofNat 32 0) (k0_pay35 (k0_pay28 ids V1)) (rectOf C r0 r1) (k0_pay37 (rectOf C r0 r1)) (k0_pay38 (rectOf C r0 r1)) (k0_pay3 (F := Ideal)))
      (Idealize.ShloMosaic.ix2 k l)
      = ∑ y : Fin 512, ∑ x : Fin 512, if W I k y x ∧ I y x = BitVec.ofNat 32 l.val then (1 : EReal) else 0 := by
  have hR := fun k y x => rect_W I C r0 r1 k hC hr0 hr1 y x
  have s1 := k_cm1 I 1 (rectOf C r0 r1) V1' h1' hR
    (k0_pay39 (F := Ideal) (BitVec.ofNat 32 0) (k0_pay35 (k0_pay28 ids V1)) (rectOf C r0 r1) (k0_pay37 (rectOf C r0 r1)) (k0_pay38 (rectOf C r0 r1)) (k0_pay3 (F := Ideal))) k l
  have s0 := k_cm1 I 0 (rectOf C r0 r1) V1 h1 hR (k0_pay3 (F := Ideal)) k l
  have z : k0_pay3 (F := Ideal) (Idealize.ShloMosaic.ix2 k l) = (0 : EReal) := by pointwise [k0_pay3]
  have hs := sum_rows (fun y => ∑ x : Fin 512, if W I k y x ∧ I y x = BitVec.ofNat 32 l.val then (1 : EReal) else 0)
  exact add_start s1 s0 z hs

/-- A count over pairs is positive exactly where a pair is counted. -/
theorem ind_pos2 {ι κ : Type} [Fintype ι] [Fintype κ] (p : ι → κ → Prop) [∀ y x, Decidable (p y x)] :
    0 < ∑ y, ∑ x, (if p y x then (1 : EReal) else 0) ↔ ∃ y x, p y x := by
  rw [← Fintype.sum_prod_type' (fun (y : ι) (x : κ) => if p y x then (1 : EReal) else 0)]
  have := ind_pos (fun a : ι × κ => p a.1 a.2)
  refine Iff.trans this ?_
  exact ⟨fun ⟨a, h⟩ => ⟨a.1, a.2, h⟩, fun ⟨y, x, h⟩ => ⟨(y, x), h⟩⟩

open Classical in
/-- A pair of instances co-occurs. -/
theorem cm_pos (k l : Fin 16) :
    0 < (∑ y : Fin 512, ∑ x : Fin 512, if W I k y x ∧ I y x = BitVec.ofNat 32 l.val then (1 : EReal) else 0) ↔ P I k l :=
  ind_pos2 (fun y x => W I k y x ∧ I y x = BitVec.ofNat 32 l.val)

/-- A count as a sum. -/
theorem card_sum (p : Fin 16 → Prop) [DecidablePred p] :
    ∑ j : Fin 16, (if p j then (1 : EReal) else 0) = sf (Finset.univ.filter p).card := by
  unfold sf
  have : ∀ j, (if p j then (1 : EReal) else 0) = (((if p j then 1 else 0 : ℝ)) : EReal) := fun j => by split <;> simp
  simp only [this]
  rw [coe_sum, Finset.sum_boole]

open Classical in
/-- The kernel's weight of a pair, the pair of noughts left out. -/
theorem k_wt (CM : Vec Ideal S16x16 .f32) (hP : ∀ k l, 0 < CM (Idealize.ShloMosaic.ix2 k l) ↔ P I k l) (k l : Fin 16) :
    k0_pay33 (F := Ideal) CM (Idealize.ShloMosaic.ix2 k l)
      = if k = 0 ∨ l = 0 then Ideal.ofBits .f32 0x3F000000#32 else if Nr (P I k) l then 1 else 0 := by
  have hz : ∀ j : Fin 16, BitVec.ofNat 32 j.val = 0#32 ↔ j = 0 := fun j => ofNat_inj j 0
  pointwise [k0_pay33]
  simp only [sitofp_bit, ofBool_one, decide_eq_true_eq, hP, sgt_one]
  have hs : (∑ x : Fin 16, (if P I k x then (1 : EReal) else 0) * (if (BitVec.ofNat 32 l.val).toInt < (BitVec.ofNat 32 x.val).toInt then 1 else 0))
      = sf (Finset.univ.filter (fun j : Fin 16 => l < j ∧ P I k j)).card := by
    rw [← card_sum]
    refine Finset.sum_congr rfl fun j _ => ?_
    rw [toInt_small _ (by omega), toInt_small _ (by omega)]
    by_cases hp : P I k j
    · by_cases hl : l < j
      · rw [if_pos hp, if_pos (by exact_mod_cast hl), if_pos ⟨hl, hp⟩, one_mul]
      · rw [if_pos hp, if_neg (fun h => hl (by exact_mod_cast h)), if_neg (fun h => hl h.1), one_mul]
    · rw [if_neg hp, zero_mul, if_neg (fun h => hp h.2)]
  by_cases h0 : k = 0 ∨ l = 0
  · rw [if_pos h0, select_one _ _ _ ((ori_one _ _).mpr (by rw [eq_one, eq_one, hz, hz]; exact h0))]
  · rw [if_neg h0, select_zero _ _ _ (fun h => h0 (by rw [ori_one, eq_one, eq_one, hz, hz] at h; exact h))]
    have h9 : sf (Finset.univ.filter (fun j : Fin 16 => l < j ∧ P I k j)).card ≤ Ideal.ofBits .f32 0x41100000#32
        ↔ (Finset.univ.filter (fun j : Fin 16 => l < j ∧ P I k j)).card ≤ 9 := by
      rw [bits_9, show ((9 : ℝ) : EReal) = sf 9 by unfold sf; norm_num, sf_le]
    by_cases hc : (1 ≤ l.val) ∧ (Finset.univ.filter (fun j : Fin 16 => l < j ∧ P I k j)).card ≤ 9
    · rw [select_one _ _ _ ?_]
      · refine if_congr ?_ rfl rfl
        exact ⟨fun h => ⟨h, hc.1, hc.2⟩, fun h => h.1⟩
      · rw [andi_one, sge_one, ofBool_one, decide_eq_true_eq]
        refine ⟨by rw [toInt_small l.val (by omega)]; show (1 : ℤ) ≤ _; omega, ?_⟩
        exact (le_of_eq hs).trans (h9.mpr hc.2)
    · rw [select_zero _ _ _ ?_, if_neg (fun h => hc ⟨h.2.1, h.2.2⟩)]
      intro h
      rw [andi_one, sge_one, ofBool_one, decide_eq_true_eq] at h
      refine hc ⟨?_, h9.mp ((le_of_eq hs.symm).trans h.2)⟩
      have := h.1
      have tl := toInt_small l.val (by omega)
      have e : (1#32 : BitVec 32).toInt = 1 := by decide
      omega

/-- The kernel's absolute cosine of two directions. -/
theorem k_sim (K : Vec Ideal S16x8 .f32) (hK : ∀ k d, K (Idealize.ShloMosaic.ix2 k d) = kf E I k d) (k l : Fin 16) :
    k0_pay32 (F := Ideal) K (Idealize.ShloMosaic.ix2 k l) = simS (kf E I) k l := by
  pointwise [k0_pay32]
  simp only [hK, Finset.univ_unique, Finset.sum_singleton]
  rfl

/-- An image joins the sum of the images before. -/
theorem k_acc (a : FVec Ideal S16x16 .f32)
    (ha : ∀ k l, a (Idealize.ShloMosaic.ix2 k l) = simS (kf E I) k l) (CM : Vec Ideal S16x16 .f32)
    (hP : ∀ k l, 0 < CM (Idealize.ShloMosaic.ix2 k l) ↔ P I k l) (s t : EReal) :
    k0_pay8 (F := Ideal) a (k0_pay33 CM) k0_pay34 (FloatOps.ofBits (F := Ideal) FTy.f32 0#32) s t
      = s + (interS E I + Ideal.div t cHW * Ideal.ofBits .f32 0x41200000#32) := by
  have hz : ∀ j : Fin 16, BitVec.ofNat 32 j.val = 0#32 ↔ j = 0 := fun j => ofNat_inj j 0
  have hw : ∀ (k l : Fin 16) (e : EReal), Scalar.select (IntOp.andi (IntOp.cmpi CmpIPredicate.eq (BitVec.ofNat 32 k.val) 0#32)
      (IntOp.cmpi CmpIPredicate.eq (BitVec.ofNat 32 l.val) 0#32)) (0 : EReal)
      (e * k0_pay33 (F := Ideal) CM (Idealize.ShloMosaic.ix2 k l)) = e * nmS I k l := by
    intro k l e
    unfold nmS
    by_cases h : k = 0 ∧ l = 0
    · rw [if_pos h, select_one _ _ _ ((andi_one _ _).mpr (by rw [eq_one, eq_one, hz, hz]; exact h)), mul_zero]
    · rw [if_neg h, select_zero _ _ _ (fun h' => h (by rw [andi_one, eq_one, eq_one, hz, hz] at h'; exact h')), k_wt I CM hP]
  pointwise [k0_pay8, k0_pay34]
  simp only [ha]
  refine congrArg (s + ·) (congrArg (· + _) (congrArg₂ Ideal.div ?_ ?_))
  · exact Finset.sum_congr rfl fun k _ => Finset.sum_congr rfl fun l _ => hw k l _
  · exact Finset.sum_congr rfl fun k _ => Finset.sum_congr rfl fun l _ => by
      have := hw k l 1
      rwa [one_mul, one_mul] at this

end Cert.Val
end
-- ==== Proof.Val.RefA.lean ====
module
public import proofs.«01_k».proof.Proof.Val.Spec
public import proofs.«01_k».proof.Proof.Gen.ReferenceIdeal.Read
@[expose] public section
set_option maxRecDepth 16384
noncomputable section
namespace Cert.Val
open Idealize.ShloMosaic Cert.ReferenceIdeal Cert.ReferenceIdeal.Read
open scoped BigOperators

/-- The embedding of image `b`. -/
def Eof (x1 : FVec Ideal ⟨4, ![4,8,512,512]⟩ .f32) (b : Fin 4) : Fin 8 → Fin 512 → Fin 512 → EReal :=
  fun d y x => x1 (Idealize.ShloMosaic.ix4 b d y x)
/-- The instance map of image `b`. -/
def Iof (x3 : IVec ⟨4, ![4,1,512,512]⟩ 32) (b : Fin 4) : Fin 512 → Fin 512 → BitVec 32 :=
  fun y x => x3 (Idealize.ShloMosaic.ix4 b 0 y x)

variable (x0 : FVec Ideal ⟨4, ![4,2,512,512]⟩ .f32) (x1 : FVec Ideal ⟨4, ![4,8,512,512]⟩ .f32)
  (x2 : IVec ⟨3, ![4,512,512]⟩ 32) (x3 : IVec ⟨4, ![4,1,512,512]⟩ 32)

/-- The reference's count of an instance. -/
theorem r_cnt (b : Fin 4) (k : Fin 16) :
    val_main_v10 (F := Ideal) x3 (Idealize.ShloMosaic.ix2 b k) = cnt (Iof x3 b) k := by
  pointwise [val_main_v10, val_main_v9, val_main_v8, val_main_v7, val_main_v0, val_main_v1, val_main_v2, val_main_v3, val_main_v4, val_main_v5, val_main_v6, val_main_cst_0, val_main_cst]
  simp only [uitofp_eq]
  rfl

/-- The reference's sum of an instance's embeddings. -/
theorem r_sm (b : Fin 4) (k : Fin 16) (d : Fin 8) :
    val_main_v15 (F := Ideal) x1 x3 (Idealize.ShloMosaic.ix3 b k d) = sm (Eof x1 b) (Iof x3 b) k d := by
  pointwise [val_main_v15, val_main_v14, val_main_v13, val_main_call0_v4, val_main_call0_v3, val_main_call0_v2, val_main_call0_v1, val_main_call0_v0, val_main_cst_1, val_main_v11, val_main_v12, val_main_v7, val_main_v0, val_main_v1, val_main_v2, val_main_v3, val_main_v4, val_main_v5, val_main_v6, val_main_cst_3, val_main_cst_2]
  simp only [select_eq, id_eq]
  pointwise []
  rfl

/-- The reference's mean of an instance. -/
theorem r_mean (b : Fin 4) (k : Fin 16) (d : Fin 8) :
    val_main_v18 (F := Ideal) x1 x3 (Idealize.ShloMosaic.ix3 b k d) = mean (Eof x1 b) (Iof x3 b) k d := by
  pointwise [val_main_v18, val_main_v17, val_main_v16]
  rw [r_sm, r_cnt]
  rfl

/-- The reference's length of an instance's mean. -/
theorem r_len (b : Fin 4) (k : Fin 16) :
    val_main_v22 (F := Ideal) x1 x3 (Idealize.ShloMosaic.ix3 b k 0) = len (Eof x1 b) (Iof x3 b) k := by
  pointwise [val_main_v22, val_main_v21, val_main_v20, val_main_v19, val_main_cst_4]
  simp only [r_mean]
  rfl

/-- The reference's direction of an instance. -/
theorem r_kf (b : Fin 4) (k : Fin 16) (d : Fin 8) :
    val_main_v26 (F := Ideal) x1 x3 (Idealize.ShloMosaic.ix3 b k d) = kf (Eof x1 b) (Iof x3 b) k d := by
  pointwise [val_main_v26, val_main_v25, val_main_v24, val_main_v23, val_main_cst_5]
  rw [r_mean, r_len]
  rfl

/-- A row of the gathered table: the row the start index names, read signed and clamped. -/
theorem gather_rows (v : FVec Ideal S4x16x8 .f32) (idx : IVec S4x512x512x1 32) (b : Fin 4) (y x : Fin 512) (d : Fin 8) :
    Host.gather gather_S4x16x8_S4x512x512x1_S4x512x512x8_3_1_0_0_1_3_118 v idx (Idealize.ShloMosaic.ix4 b y x d)
      = v (Idealize.ShloMosaic.ix3 b ⟨min (idx (Idealize.ShloMosaic.ix4 b y x 0)).toInt.toNat 15, by omega⟩ d) := by
  unfold Host.gather
  congr 1
  funext a
  refine Fin.ext ?_
  show GatherDims.start _ _ idx a + GatherDims.batchCoord _ _ a + GatherDims.offCoord _ _ a = _
  have h01 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x16x8_S4x512x512x1_S4x512x512x8_3_1_0_0_1_3_118.operandBatchingDims from List.mem_singleton.mpr rfl)]
    rfl
  · rw [GatherDims.batchCoord_eq_zero _ _ _ (fun h => absurd (show (1 : Fin 3) ∈ ([0] : List (Fin 3)) from h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x16x8_S4x512x512x1_S4x512x512x8_3_1_0_0_1_3_118.startIndexMap from List.mem_singleton.mpr rfl)]
    have hsi : gather_S4x16x8_S4x512x512x1_S4x512x512x8_3_1_0_0_1_3_118.siIdx (Idealize.ShloMosaic.ix4 b y x d) ⟨List.idxOf (1 : Fin 3) gather_S4x16x8_S4x512x512x1_S4x512x512x8_3_1_0_0_1_3_118.startIndexMap,
        List.idxOf_lt_length_iff.2 (List.mem_singleton.mpr rfl)⟩ = Idealize.ShloMosaic.ix4 b y x 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => absurd (show (2 : Fin 3) ∈ ([0] : List (Fin 3)) from h) (by decide))]
    unfold GatherDims.start
    rw [dif_neg (show ¬ (2 : Fin 3) ∈ gather_S4x16x8_S4x512x512x1_S4x512x512x8_3_1_0_0_1_3_118.startIndexMap from fun h => absurd (show (2 : Fin 3) ∈ ([1] : List (Fin 3)) from h) (by decide))]
    unfold GatherDims.offCoord
    rw [dif_pos (show (2 : Fin 3) ∈ gather_S4x16x8_S4x512x512x1_S4x512x512x8_3_1_0_0_1_3_118.sKept by decide)]
    have hk : List.idxOf (2 : Fin 3) gather_S4x16x8_S4x512x512x1_S4x512x512x8_3_1_0_0_1_3_118.sKept = 0 := by decide
    have hv : gather_S4x16x8_S4x512x512x1_S4x512x512x8_3_1_0_0_1_3_118.offsetDims[List.idxOf (2 : Fin 3) gather_S4x16x8_S4x512x512x1_S4x512x512x8_3_1_0_0_1_3_118.sKept]'(by rw [hk]; decide) = (3 : Fin 4) := by
      simp only [hk]; rfl
    show 0 + 0 + (Idealize.ShloMosaic.ix4 b y x d (gather_S4x16x8_S4x512x512x1_S4x512x512x8_3_1_0_0_1_3_118.offsetDims[List.idxOf (2 : Fin 3) gather_S4x16x8_S4x512x512x1_S4x512x512x8_3_1_0_0_1_3_118.sKept]'_)).val = _
    rw [hv]
    show 0 + 0 + d.val = d.val
    omega

/-- The instance a pixel's table row is taken from. -/
def rowOf (w : BitVec 32) : Fin 16 :=
  ⟨min (Scalar.select (IntOp.cmpi .slt w 0#32) (IntOp.addi w 16#32) w).toInt.toNat 15, by omega⟩

/-- The reference's own direction at a pixel. -/
theorem r_own (b : Fin 4) (d : Fin 8) (y x : Fin 512) :
    val_main_v34 (F := Ideal) x1 x3 (Idealize.ShloMosaic.ix4 b d y x)
      = kf (Eof x1 b) (Iof x3 b) (rowOf (Iof x3 b y x)) d := by
  pointwise [val_main_v34, val_main_v33]
  rw [gather_rows, r_kf]
  congr 1
  refine Fin.ext ?_
  show min (BitVec.toInt (val_main_v32 (F := Ideal) x3 _)).toNat 15 = _
  pointwise [val_main_v32, val_main_v31, val_main_v30, val_main_v29, val_main_v28, val_main_v27, val_main_c_6, val_main_c, val_main_v0]
  rfl

/-- The reference's cosine at a pixel. -/
theorem r_cos (b : Fin 4) (y x : Fin 512) :
    val_main_v48 (F := Ideal) x1 x3 (Idealize.ShloMosaic.ix3 b y x)
      = cosR (fun d => kf (Eof x1 b) (Iof x3 b) (rowOf (Iof x3 b y x)) d) (fun d => Eof x1 b d y x) := by
  pointwise [val_main_v48, val_main_v47, val_main_v46, val_main_v45, val_main_v44, val_main_v43, val_main_v42, val_main_v41, val_main_v40, val_main_v39, val_main_v38, val_main_v37, val_main_v36, val_main_v35, val_main_cst_9, val_main_cst_11, val_main_cst_10, val_main_cst_8, val_main_cst_7]
  simp only [r_own]
  rfl

/-- The number one. -/
theorem one_bits : Ideal.ofBits .f32 0x3F800000#32 = 1 := by
  rw [show (1:EReal) = ((1:ℝ):EReal) by norm_cast]; simp [Ideal.ofBits, Ideal.ieee, -EReal.coe_mul]; norm_num

/-- The reference's pull term of an image. -/
theorem r_intra (b : Fin 4) :
    val_main_v56 (F := Ideal) x1 x3 (Idealize.ShloMosaic.ix1 b)
      = Ideal.div (intraS (Eof x1 b) (Iof x3 b) (fun y x => rowOf (Iof x3 b y x))) cHW := by
  pointwise [val_main_v56, val_main_v55, val_main_v54, val_main_v53, val_main_v52, val_main_v51, val_main_v50, val_main_v49, val_main_cst_12, val_main_cst_13, val_main_cst_15, val_main_cst_14]
  simp only [r_cos]
  rfl

end Cert.Val
end
-- ==== Proof.Val.RefB.lean ====
module
public import proofs.«01_k».proof.Proof.Val.RefA
public import proofs.«01_k».proof.Proof.Val.Bits
@[expose] public section
set_option maxRecDepth 16384
noncomputable section
namespace Cert.Val
open Idealize.ShloMosaic
open scoped BigOperators
open Cert.ReferenceIdeal Cert.ReferenceIdeal.Read
variable (x0 : FVec Ideal ⟨4, ![4,2,512,512]⟩ .f32) (x1 : FVec Ideal ⟨4, ![4,8,512,512]⟩ .f32)
  (x2 : IVec ⟨3, ![4,512,512]⟩ 32) (x3 : IVec ⟨4, ![4,1,512,512]⟩ 32)

/-- The least column of an instance. -/
theorem r_xmin (b : Fin 4) (k : Fin 16) (t : ℤ) (ht : t < 1000000000) :
    (val_main_v63 (F := Ideal) x3 (Idealize.ShloMosaic.ix2 b k)).toInt ≤ t
      ↔ ∃ y' x' : Fin 512, Iof x3 b y' x' = BitVec.ofNat 32 k.val ∧ (x'.val : ℤ) ≤ t := by
  have hb : (1000000000#32 : BitVec 32).toInt = 1000000000 := by decide
  pointwise [val_main_v61, val_main_v62, val_main_v63, val_main_call1_v0, val_main_call1_v1, val_main_call1_v2, val_main_call1_v3, val_main_call1_v4, val_main_c_16, val_main_c_17, val_main_c_18, val_main_v0, val_main_v1, val_main_v2, val_main_v3, val_main_v4, val_main_v5, val_main_v6, val_main_v7, val_main_v57, val_main_v58, val_main_v59, val_main_v60]
  simp only [select_eq, id_eq]
  pointwise []
  rw [fold_minsi_le _ _ _ (by omega)]
  simp only [fold_minsi_le _ _ t (by omega), Finset.mem_univ, true_and]
  refine exists_congr fun y' => exists_congr fun x' => ?_
  show (if Iof x3 b y' x' = BitVec.ofNat 32 k.val then BitVec.ofNat 32 x'.val else 1000000000#32).toInt ≤ t ↔ _
  split
  · rename_i h
    rw [toInt_small _ (by omega)]
    exact ⟨fun hh => ⟨h, hh⟩, fun hh => hh.2⟩
  · rename_i h
    rw [hb]
    exact ⟨fun hh => by omega, fun hh => absurd hh.1 h⟩

/-- The least row of an instance. -/
theorem r_ymin (b : Fin 4) (k : Fin 16) (t : ℤ) (ht : t < 1000000000) :
    (val_main_v66 (F := Ideal) x3 (Idealize.ShloMosaic.ix2 b k)).toInt ≤ t
      ↔ ∃ y' x' : Fin 512, Iof x3 b y' x' = BitVec.ofNat 32 k.val ∧ (y'.val : ℤ) ≤ t := by
  have hb : (1000000000#32 : BitVec 32).toInt = 1000000000 := by decide
  pointwise [val_main_v64, val_main_v65, val_main_v66, val_main_call2_v0, val_main_call2_v1, val_main_call2_v2, val_main_call2_v3, val_main_call2_v4, val_main_c_19, val_main_c_20, val_main_c_21, val_main_v0, val_main_v1, val_main_v2, val_main_v3, val_main_v4, val_main_v5, val_main_v6, val_main_v7, val_main_v57, val_main_v58, val_main_v59, val_main_v60]
  simp only [select_eq, id_eq]
  pointwise []
  rw [fold_minsi_le _ _ _ (by omega)]
  simp only [fold_minsi_le _ _ t (by omega), Finset.mem_univ, true_and]
  refine exists_congr fun y' => exists_congr fun x' => ?_
  show (if Iof x3 b y' x' = BitVec.ofNat 32 k.val then BitVec.ofNat 32 y'.val else 1000000000#32).toInt ≤ t ↔ _
  split
  · rename_i h
    rw [toInt_small _ (by omega)]
    exact ⟨fun hh => ⟨h, hh⟩, fun hh => hh.2⟩
  · rename_i h
    rw [hb]
    exact ⟨fun hh => by omega, fun hh => absurd hh.1 h⟩

/-- The greatest column of an instance. -/
theorem r_xmax (b : Fin 4) (k : Fin 16) (t : ℤ) (ht : -1000000000 ≤ t) :
    t < (val_main_v69 (F := Ideal) x3 (Idealize.ShloMosaic.ix2 b k)).toInt
      ↔ ∃ y' x' : Fin 512, Iof x3 b y' x' = BitVec.ofNat 32 k.val ∧ t < (x'.val : ℤ) := by
  have hb : (3294967296#32 : BitVec 32).toInt = -1000000000 := by decide
  pointwise [val_main_v67, val_main_v68, val_main_v69, val_main_call3_v0, val_main_call3_v1, val_main_call3_v2, val_main_call3_v3, val_main_call3_v4, val_main_c_22, val_main_c_23, val_main_c_24, val_main_v0, val_main_v1, val_main_v2, val_main_v3, val_main_v4, val_main_v5, val_main_v6, val_main_v7, val_main_v57, val_main_v58, val_main_v59, val_main_v60]
  simp only [select_eq, id_eq]
  pointwise []
  rw [lt_fold_maxsi _ _ _ (by omega)]
  simp only [lt_fold_maxsi _ _ t (by omega), Finset.mem_univ, true_and]
  refine exists_congr fun y' => exists_congr fun x' => ?_
  show t < (if Iof x3 b y' x' = BitVec.ofNat 32 k.val then BitVec.ofNat 32 x'.val else 3294967296#32).toInt ↔ _
  split
  · rename_i h
    rw [toInt_small _ (by omega)]
    exact ⟨fun hh => ⟨h, hh⟩, fun hh => hh.2⟩
  · rename_i h
    rw [hb]
    exact ⟨fun hh => by omega, fun hh => absurd hh.1 h⟩

/-- The greatest row of an instance. -/
theorem r_ymax (b : Fin 4) (k : Fin 16) (t : ℤ) (ht : -1000000000 ≤ t) :
    t < (val_main_v72 (F := Ideal) x3 (Idealize.ShloMosaic.ix2 b k)).toInt
      ↔ ∃ y' x' : Fin 512, Iof x3 b y' x' = BitVec.ofNat 32 k.val ∧ t < (y'.val : ℤ) := by
  have hb : (3294967296#32 : BitVec 32).toInt = -1000000000 := by decide
  pointwise [val_main_v70, val_main_v71, val_main_v72, val_main_call4_v0, val_main_call4_v1, val_main_call4_v2, val_main_call4_v3, val_main_call4_v4, val_main_c_25, val_main_c_26, val_main_c_27, val_main_v0, val_main_v1, val_main_v2, val_main_v3, val_main_v4, val_main_v5, val_main_v6, val_main_v7, val_main_v57, val_main_v58, val_main_v59, val_main_v60]
  simp only [select_eq, id_eq]
  pointwise []
  rw [lt_fold_maxsi _ _ _ (by omega)]
  simp only [lt_fold_maxsi _ _ t (by omega), Finset.mem_univ, true_and]
  refine exists_congr fun y' => exists_congr fun x' => ?_
  show t < (if Iof x3 b y' x' = BitVec.ofNat 32 k.val then BitVec.ofNat 32 y'.val else 3294967296#32).toInt ↔ _
  split
  · rename_i h
    rw [toInt_small _ (by omega)]
    exact ⟨fun hh => ⟨h, hh⟩, fun hh => hh.2⟩
  · rename_i h
    rw [hb]
    exact ⟨fun hh => by omega, fun hh => absurd hh.1 h⟩

/-- The left edge of a window. -/
theorem r_xlow (b : Fin 4) (k : Fin 16) (z : Fin 512) :
    (val_main_v77 (F := Ideal) x3 (Idealize.ShloMosaic.ix2 b k)).toInt ≤ (z.val : ℤ)
      ↔ ∃ y' x' : Fin 512, Iof x3 b y' x' = BitVec.ofNat 32 k.val ∧ x'.val ≤ z.val + 10 := by
  pointwise [val_main_v73, val_main_v74, val_main_v75, val_main_v76, val_main_v77, val_main_call5_v0, val_main_call5_v1, val_main_call5_v2, val_main_c_28, val_main_c_29, val_main_c_30]
  simp only [id_eq]
  pointwise []
  rw [edge_low _ _ (by omega), r_xmin _ _ _ _ (by omega)]
  refine exists_congr fun y' => exists_congr fun x' => and_congr_right fun _ => ?_
  omega

/-- The right edge of a window. -/
theorem r_xhigh (b : Fin 4) (k : Fin 16) (z : Fin 512) :
    (z.val : ℤ) < (val_main_v83 (F := Ideal) x3 (Idealize.ShloMosaic.ix2 b k)).toInt
      ↔ ∃ y' x' : Fin 512, Iof x3 b y' x' = BitVec.ofNat 32 k.val ∧ z.val < x'.val + 10 := by
  pointwise [val_main_v79, val_main_v80, val_main_v81, val_main_v82, val_main_v83, val_main_call6_v0, val_main_call6_v1, val_main_call6_v2, val_main_c_31, val_main_c_32, val_main_c_33]
  simp only [id_eq]
  pointwise []
  rw [edge_high _ _ (by omega), r_xmax _ _ _ _ (by omega)]
  refine exists_congr fun y' => exists_congr fun x' => and_congr_right fun _ => ?_
  omega

/-- The upper edge of a window. -/
theorem r_ylow (b : Fin 4) (k : Fin 16) (z : Fin 512) :
    (val_main_v89 (F := Ideal) x3 (Idealize.ShloMosaic.ix2 b k)).toInt ≤ (z.val : ℤ)
      ↔ ∃ y' x' : Fin 512, Iof x3 b y' x' = BitVec.ofNat 32 k.val ∧ y'.val ≤ z.val + 10 := by
  pointwise [val_main_v85, val_main_v86, val_main_v87, val_main_v88, val_main_v89, val_main_call7_v0, val_main_call7_v1, val_main_call7_v2, val_main_c_34, val_main_c_35, val_main_c_36]
  simp only [id_eq]
  pointwise []
  rw [edge_low _ _ (by omega), r_ymin _ _ _ _ (by omega)]
  refine exists_congr fun y' => exists_congr fun x' => and_congr_right fun _ => ?_
  omega

/-- The lower edge of a window. -/
theorem r_yhigh (b : Fin 4) (k : Fin 16) (z : Fin 512) :
    (z.val : ℤ) < (val_main_v95 (F := Ideal) x3 (Idealize.ShloMosaic.ix2 b k)).toInt
      ↔ ∃ y' x' : Fin 512, Iof x3 b y' x' = BitVec.ofNat 32 k.val ∧ z.val < y'.val + 10 := by
  pointwise [val_main_v91, val_main_v92, val_main_v93, val_main_v94, val_main_v95, val_main_call8_v0, val_main_call8_v1, val_main_call8_v2, val_main_c_37, val_main_c_38, val_main_c_39]
  simp only [id_eq]
  pointwise []
  rw [edge_high _ _ (by omega), r_ymax _ _ _ _ (by omega)]
  refine exists_congr fun y' => exists_congr fun x' => and_congr_right fun _ => ?_
  omega

/-- The reference's presence of instance `l` in the window of instance `k`. -/
theorem r_present (b : Fin 4) (k l : Fin 16) :
    val_main_v125 (F := Ideal) x3 (Idealize.ShloMosaic.ix3 b k l) = 1#1 ↔ P (Iof x3 b) k l := by
  pointwise [val_main_v124, val_main_v125, val_main_c_40, val_main_c_41, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v78, val_main_v84, val_main_v90, val_main_v0, val_main_v1, val_main_v2, val_main_v3, val_main_v4, val_main_v5, val_main_v6, val_main_v7, val_main_v57, val_main_v58, val_main_v59, val_main_v60]
  rw [fold_ori]
  simp only [fold_ori, Finset.mem_univ, true_and, andi_one, sge_one, slt_one, eq_one]
  refine exists_congr fun y => exists_congr fun x => ?_
  have hy := toInt_small y.val (by omega)
  have hx := toInt_small x.val (by omega)
  simp only [hy, hx, r_xlow, r_xhigh, r_ylow, r_yhigh]
  unfold W
  show _ ∧ Iof x3 b y x = _ ↔ _
  tauto

open Classical in
/-- The number an instance is sorted by. -/
theorem r_num (b : Fin 4) (k l : Fin 16) :
    val_main_v126 (F := Ideal) x3 (Idealize.ShloMosaic.ix3 b k l)
      = if P (Iof x3 b) k l then BitVec.ofNat 32 l.val else 4294967295#32 := by
  pointwise [val_main_v126, val_main_call9_v0, val_main_call9_v1, val_main_call9_v2, val_main_call9_v3, val_main_call9_v4, val_main_c_42, val_main_v1]
  simp only [id_eq]
  pointwise []
  by_cases h : P (Iof x3 b) k l
  · rw [if_pos h, select_one _ _ _ ((r_present x3 b k l).mpr h)]
  · rw [if_neg h, select_zero _ _ _ (fun hh => h ((r_present x3 b k l).mp hh))]

/-- The negated numbers of a window in ascending order. -/
def sg (b : Fin 4) (k : Fin 16) : Fin 16 → Fin 16 :=
  sortedFrom fun i j => comparator_i32_d2 (-val_main_v126 (F := Ideal) x3 (Idealize.ShloMosaic.ix3 b k i))
    (-val_main_v126 (F := Ideal) x3 (Idealize.ShloMosaic.ix3 b k j)) == 1#1

/-- An index moved along its last axis. -/
theorem along_last (b : Fin 4) (k l i : Fin 16) (h : 2 < S4x16x16.rank) :
    Shape.Idx.along (s := S4x16x16) (Idealize.ShloMosaic.ix3 b k l) ⟨2, h⟩ i = Idealize.ShloMosaic.ix3 b k i := by
  funext a
  match a with
  | ⟨0, _⟩ => rfl
  | ⟨1, _⟩ => rfl
  | ⟨2, _⟩ => rfl

/-- The sorted numbers. -/
theorem r_sort (b : Fin 4) (k i : Fin 16) :
    val_main_v128 (F := Ideal) x3 (Idealize.ShloMosaic.ix3 b k i)
      = -val_main_v126 (F := Ideal) x3 (Idealize.ShloMosaic.ix3 b k (sg x3 b k i)) := by
  have e : ∀ h : 2 < S4x16x16.rank, val_main_v128 (F := Ideal) x3 (Idealize.ShloMosaic.ix3 b k i)
      = val_main_v127 (F := Ideal) x3 (Shape.Idx.along (s := S4x16x16) (Idealize.ShloMosaic.ix3 b k i) ⟨2, h⟩
          (sortedFrom (n := 16) (fun p q => comparator_i32_d2
            (val_main_v127 (F := Ideal) x3 (Shape.Idx.along (s := S4x16x16) (Idealize.ShloMosaic.ix3 b k i) ⟨2, h⟩ p))
            (val_main_v127 (F := Ideal) x3 (Shape.Idx.along (s := S4x16x16) (Idealize.ShloMosaic.ix3 b k i) ⟨2, h⟩ q)) == 1#1) i)) :=
    fun _ => rfl
  have h2 : 2 < S4x16x16.rank := by decide
  rw [e h2]
  simp only [along_last]
  rfl

/-- The reference's nearest instances of a window. -/
theorem r_near (b : Fin 4) (k l : Fin 16) :
    val_main_v141 (F := Ideal) x3 (Idealize.ShloMosaic.ix3 b k l) = 1#1 ↔ Nr (P (Iof x3 b) k) l := by
  pointwise [val_main_v129, val_main_v130, val_main_v131, val_main_v132, val_main_v133, val_main_v134, val_main_v135, val_main_v136, val_main_v137, val_main_v138, val_main_v139, val_main_v140, val_main_v141, val_main_c_43, val_main_c_44, val_main_v0, val_main_v1, val_main_v2, val_main_v3, val_main_v4, val_main_v5, val_main_v6, val_main_v7]
  rw [fold_ori]
  have e0 : (0#32 : BitVec 32).toInt = 0 := by decide
  simp only [Finset.mem_univ, true_and, andi_one, sgt_one, eq_one, r_sort, BitVec.neg_neg, e0]
  refine top_iff (fun i => val_main_v126 (F := Ideal) x3 (Idealize.ShloMosaic.ix3 b k i)) (P (Iof x3 b) k)
    (fun j => r_num x3 b k j) (sg x3 b k) (sortedFrom_surjective _) ?_ l
  · intro i j hij hlt
    have hn := sortedFrom_noInversion
      (fun i j => comparator_i32_d2 (-val_main_v126 (F := Ideal) x3 (Idealize.ShloMosaic.ix3 b k i))
        (-val_main_v126 (F := Ideal) x3 (Idealize.ShloMosaic.ix3 b k j)) == 1#1)
      (fun i j => comparator_i32_d2 (-val_main_v126 (F := Ideal) x3 (Idealize.ShloMosaic.ix3 b k i))
        (-val_main_v126 (F := Ideal) x3 (Idealize.ShloMosaic.ix3 b k j)) == 1#1)
      ?_ (fun _ _ h => h) ?_ i j hij
    · have h1 : comparator_i32_d2 (-val_main_v126 (F := Ideal) x3 (Idealize.ShloMosaic.ix3 b k (sg x3 b k j)))
        (-val_main_v126 (F := Ideal) x3 (Idealize.ShloMosaic.ix3 b k (sg x3 b k i))) = 1#1 := (slt_one _ _).mpr hlt
      have h2 : ¬ comparator_i32_d2 (-val_main_v126 (F := Ideal) x3 (Idealize.ShloMosaic.ix3 b k (sg x3 b k j)))
        (-val_main_v126 (F := Ideal) x3 (Idealize.ShloMosaic.ix3 b k (sg x3 b k i))) = 1#1 := by
        intro hh
        exact absurd hn (by rw [Bool.not_eq_false]; exact beq_iff_eq.mpr hh)
      exact h2 h1
    · intro p q h
      have h := (slt_one _ _).mp (beq_iff_eq.mp h)
      rw [beq_eq_false_iff_ne]
      intro hh
      have hh := (slt_one _ _).mp hh
      omega
    · intro p q r h1 h2
      rw [beq_eq_false_iff_ne] at h1 h2 ⊢
      intro hh
      have hh := (slt_one _ _).mp hh
      have a1 := mt (slt_one _ _).mpr h1
      have a2 := mt (slt_one _ _).mpr h2
      omega

/-- The reference's weight of a pair of instances. -/
theorem r_nm (b : Fin 4) (k l : Fin 16) :
    val_main_v162 (F := Ideal) x3 (Idealize.ShloMosaic.ix3 b k l) = nmS (Iof x3 b) k l := by
  pointwise [val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_call11_v0, val_main_call11_v1, val_main_call11_v2, val_main_call11_v3, val_main_call12_v0, val_main_call12_v1, val_main_call12_v2, val_main_call12_v3, val_main_c_45, val_main_c_46, val_main_c_47, val_main_c_48, val_main_cst_49, val_main_cst_50, val_main_v1]
  simp only [id_eq]
  pointwise []
  have hz : ∀ j : Fin 16, IntOp.cmpi CmpIPredicate.eq (BitVec.ofNat 32 j.val) 0#32 = 1#1 ↔ j = 0 := by decide
  unfold nmS
  by_cases h : k = 0 ∧ l = 0
  · rw [if_pos h, select_one]
    exact (andi_one _ _).mpr ⟨(hz k).mpr h.1, (hz l).mpr h.2⟩
  · rw [if_neg h, select_zero]
    swap
    · intro hh; have hh := (andi_one _ _).mp hh; exact h ⟨(hz k).mp hh.1, (hz l).mp hh.2⟩
    by_cases h' : k = 0 ∨ l = 0
    · rw [if_pos h', select_one]
      exact (ori_one _ _).mpr (h'.imp (hz k).mpr (hz l).mpr)
    · rw [if_neg h', select_zero]
      swap
      · intro hh; exact h' (((ori_one _ _).mp hh).imp (hz k).mp (hz l).mp)
      by_cases hn : Nr (P (Iof x3 b) k) l
      · rw [if_pos hn, (r_near x3 b k l).mpr hn]
        show (((1#1 : BitVec 1).toNat : ℝ) : EReal) = 1
        simp
      · rw [if_neg hn]
        have := (bit_cases (val_main_v141 (F := Ideal) x3 (Idealize.ShloMosaic.ix3 b k l))).resolve_right
          (fun hh => hn ((r_near x3 b k l).mp hh))
        rw [this]
        show (((0#1 : BitVec 1).toNat : ℝ) : EReal) = 0
        simp

/-- The reference's push term of an image. -/
theorem r_inter (b : Fin 4) :
    val_main_v183 (F := Ideal) x1 x3 (Idealize.ShloMosaic.ix1 b) = interS (Eof x1 b) (Iof x3 b) := by
  pointwise [val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_cst_51, val_main_cst_52, val_main_cst_53, val_main_cst_54, val_main_cst_55]
  simp only [r_kf, r_nm]
  rfl

end Cert.Val
end
-- ==== Proof.Val.Foc.lean ====
module
public import proofs.«01_k».proof.Proof.Val.KerA
@[expose] public section
set_option maxRecDepth 16384
noncomputable section
namespace Cert.Val
open Idealize.ShloMosaic
open scoped BigOperators
open Cert.KernelIdeal Cert.KernelIdeal.Gen Cert.KernelIdeal.Hand

/-- The logarithm of a softmax, taken with and without the greatest logit drawn off first. -/
theorem lp_eq (a b s : EReal) (hs : s = a ∨ s = b) :
    s - max a b - Ideal.log (Ideal.exp (a - max a b) + Ideal.exp (b - max a b)) = s - Ideal.log (Ideal.exp a + Ideal.exp b) := by
  have hbot : ∀ x : EReal, ⊥ - x = ⊥ := fun x => by rw [sub_eq_add_neg, EReal.bot_add]
  have htop : ∀ x : EReal, x - ⊤ = ⊥ := fun x => by rw [sub_eq_add_neg, EReal.neg_top, EReal.add_bot]
  induction a using EReal.rec with
  | top =>
    have e : Ideal.exp ⊤ + Ideal.exp b = ⊤ := by
      rw [Ideal.exp_top]
      refine EReal.top_add_of_ne_bot ?_
      induction b using EReal.rec with
      | bot => simp
      | top => simp
      | coe r => rw [Ideal.exp_coe]; exact EReal.coe_ne_bot _
    rw [e, Ideal.log_top, max_eq_left le_top, htop s, hbot]
  | bot =>
    induction b using EReal.rec with
    | bot =>
      rcases hs with rfl | rfl <;> simp [hbot]
    | top =>
      have e : Ideal.exp ⊥ + Ideal.exp ⊤ = ⊤ := by simp
      rw [e, Ideal.log_top, max_eq_right bot_le, htop s, hbot]
    | coe r =>
      rcases hs with rfl | rfl
      · rw [hbot, hbot, hbot]
      · rw [max_eq_right bot_le, hbot, Ideal.exp_bot, zero_add, zero_add, ← EReal.coe_sub, sub_self, Ideal.exp_coe, Ideal.exp_coe,
          Real.exp_zero, Ideal.log_coe, Ideal.log_coe]
        simp [Real.exp_pos, Real.exp_ne_zero, ← EReal.coe_sub, -EReal.coe_sub, not_le.mpr (Real.exp_pos r)]
  | coe q =>
    induction b using EReal.rec with
    | top =>
      have e : Ideal.exp (q : EReal) + Ideal.exp ⊤ = ⊤ := by
        rw [Ideal.exp_top, Ideal.exp_coe]
        exact EReal.coe_add_top _
      rw [e, Ideal.log_top, max_eq_right le_top, htop s, hbot]
    | bot =>
      rcases hs with rfl | rfl
      · rw [max_eq_left bot_le, hbot, Ideal.exp_bot, add_zero, add_zero, ← EReal.coe_sub, sub_self, Ideal.exp_coe, Ideal.exp_coe,
          Real.exp_zero, Ideal.log_coe, Ideal.log_coe]
        simp [Real.exp_pos, Real.exp_ne_zero, ← EReal.coe_sub, -EReal.coe_sub, not_le.mpr (Real.exp_pos q)]
      · rw [hbot, hbot, hbot]
    | coe r =>
      have hm : max (q : EReal) (r : EReal) = ((max q r : ℝ) : EReal) := coe_max' q r
      obtain ⟨t, ht⟩ : ∃ t : ℝ, s = (t : EReal) := by rcases hs with h | h <;> exact ⟨_, h⟩
      have p1 : 0 < Real.exp (q - max q r) + Real.exp (r - max q r) := add_pos (Real.exp_pos _) (Real.exp_pos _)
      have p2 : 0 < Real.exp q + Real.exp r := add_pos (Real.exp_pos _) (Real.exp_pos _)
      have key : Real.log (Real.exp q + Real.exp r) = max q r + Real.log (Real.exp (q - max q r) + Real.exp (r - max q r)) := by
        rw [← Real.log_exp (max q r), ← Real.log_mul (Real.exp_ne_zero _) (by rw [Real.log_exp]; exact p1.ne'), Real.log_exp, mul_add, ← Real.exp_add, ← Real.exp_add]
        congr 3 <;> ring
      rw [ht, hm, ← EReal.coe_sub, ← EReal.coe_sub, ← EReal.coe_sub, Ideal.exp_coe, Ideal.exp_coe, Ideal.exp_coe, Ideal.exp_coe,
        ← EReal.coe_add, ← EReal.coe_add, Ideal.log_coe, Ideal.log_coe]
      simp only [p1, p2, not_lt.mpr p1.le, not_lt.mpr p2.le, p1.ne', p2.ne', not_le.mpr p1, not_le.mpr p2, if_true, if_false]
      rw [← EReal.coe_sub, ← EReal.coe_sub, key]
      congr 1; ring

/-- The focal loss of a pixel, from the logarithm of its label's probability. -/
def foc (l : EReal) : EReal := (1 - Ideal.exp l) * (1 - Ideal.exp l) * -l

/-- The logarithm of the probability of a pixel's label. -/
def lpS (X : Fin 2 → Fin 512 → Fin 512 → EReal) (L : Fin 512 → Fin 512 → BitVec 32) (y x : Fin 512) : EReal :=
  (if L y x = 0#32 then X 0 y x else X 1 y x) - Ideal.log (Ideal.exp (X 0 y x) + Ideal.exp (X 1 y x))

/-- The focal loss of an image. -/
def focS (X : Fin 2 → Fin 512 → Fin 512 → EReal) (L : Fin 512 → Fin 512 → BitVec 32) : EReal :=
  ∑ y : Fin 512, ∑ x : Fin 512, foc (lpS X L y x)

variable (X : Fin 2 → Fin 512 → Fin 512 → EReal) (L : Fin 512 → Fin 512 → BitVec 32)

/-- A strip's focal loss joins that of the strips before. -/
theorem k_foc1 (q : Fin 2) (a b : Vec Ideal S1x1x256x512 .f32) (l : Vec Ideal S1x256x512 .i32)
    (ha : ∀ r x, a (Idealize.ShloMosaic.ix4 0 0 r x) = X 0 (row q r) x)
    (hb : ∀ r x, b (Idealize.ShloMosaic.ix4 0 0 r x) = X 1 (row q r) x)
    (hl : ∀ r x, l (Idealize.ShloMosaic.ix3 0 r x) = L (row q r) x) (z : EReal) :
    k0_pay7 (F := Ideal) (k0_pay40 a) (k0_pay41 b) l z
      = z + ∑ r : Fin 256, ∑ x : Fin 512, foc (lpS X L (row q r) x) := by
  pointwise [k0_pay7, k0_pay40, k0_pay41]
  simp only [ha, hb, hl, select_eq, zero_sub]
  rfl

end Cert.Val
end
-- ==== Proof.Val.RefC.lean ====
module
public import proofs.«01_k».proof.Proof.Val.RefB
public import proofs.«01_k».proof.Proof.Val.Foc
@[expose] public section
set_option maxRecDepth 16384
noncomputable section
namespace Cert.Val
open Idealize.ShloMosaic
open scoped BigOperators
open Cert.ReferenceIdeal Cert.ReferenceIdeal.Read

/-- The logits of image `b`. -/
def Xof (x0 : FVec Ideal ⟨4, ![4,2,512,512]⟩ .f32) (b : Fin 4) : Fin 2 → Fin 512 → Fin 512 → EReal :=
  fun k y x => x0 (Idealize.ShloMosaic.ix4 b k y x)
/-- The labels of image `b`. -/
def Lof (x2 : IVec ⟨3, ![4,512,512]⟩ 32) (b : Fin 4) : Fin 512 → Fin 512 → BitVec 32 :=
  fun y x => x2 (Idealize.ShloMosaic.ix3 b y x)

variable (x0 : FVec Ideal ⟨4, ![4,2,512,512]⟩ .f32) (x1 : FVec Ideal ⟨4, ![4,8,512,512]⟩ .f32)
  (x2 : IVec ⟨3, ![4,512,512]⟩ 32) (x3 : IVec ⟨4, ![4,1,512,512]⟩ 32)

/-- The gather along the classes reads the class its index names. -/
theorem gather_class (v : FVec Ideal S4x2x512x512 .f32) (idx : IVec S4x1x512x512x1 32) (b : Fin 4) (y x : Fin 512) :
    Host.gather gather_S4x2x512x512_S4x1x512x512x1_S4x1x512x512_n_1_023_023_1_4_1111 v idx (Idealize.ShloMosaic.ix4 b 0 y x)
      = v (Idealize.ShloMosaic.ix4 b ⟨min (idx (Idealize.ShloMosaic.ix5 b 0 y x 0)).toInt.toNat 1, by omega⟩ y x) := by
  unfold Host.gather
  congr 1
  funext a
  refine Fin.ext ?_
  show GatherDims.start _ _ idx a + GatherDims.batchCoord _ _ a + GatherDims.offCoord _ _ a = _
  have h01 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · have hm : (0 : Fin 4) ∈ gather_S4x2x512x512_S4x1x512x512x1_S4x1x512x512_n_1_023_023_1_4_1111.operandBatchingDims :=
      show (0 : Fin 4) ∈ ([0, 2, 3] : List (Fin 4)) by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · rw [GatherDims.batchCoord_eq_zero _ _ _ (fun h => absurd (show (1 : Fin 4) ∈ ([0, 2, 3] : List (Fin 4)) from h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S4x2x512x512_S4x1x512x512x1_S4x1x512x512_n_1_023_023_1_4_1111.startIndexMap from List.mem_singleton.mpr rfl)]
    have hsi : gather_S4x2x512x512_S4x1x512x512x1_S4x1x512x512_n_1_023_023_1_4_1111.siIdx (Idealize.ShloMosaic.ix4 b 0 y x) ⟨List.idxOf (1 : Fin 4) gather_S4x2x512x512_S4x1x512x512x1_S4x1x512x512_n_1_023_023_1_4_1111.startIndexMap,
        List.idxOf_lt_length_iff.2 (List.mem_singleton.mpr rfl)⟩ = Idealize.ShloMosaic.ix5 b 0 y x 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  · have hm : (2 : Fin 4) ∈ gather_S4x2x512x512_S4x1x512x512x1_S4x1x512x512_n_1_023_023_1_4_1111.operandBatchingDims :=
      show (2 : Fin 4) ∈ ([0, 2, 3] : List (Fin 4)) by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · have hm : (3 : Fin 4) ∈ gather_S4x2x512x512_S4x1x512x512x1_S4x1x512x512_n_1_023_023_1_4_1111.operandBatchingDims :=
      show (3 : Fin 4) ∈ ([0, 2, 3] : List (Fin 4)) by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl

/-- The reference's greatest logit of a pixel. -/
theorem fold_two (f : Fin 2 → EReal) : max (Ideal.ofBits .f32 4286578688#32) (Finset.fold max (Ideal.ofBits .f32 4286578688#32) f Finset.univ) = max (f 0) (f 1) := by
  rw [show Ideal.ofBits .f32 4286578688#32 = ⊥ from by simp [Ideal.ofBits, Ideal.ieee], max_eq_right bot_le,
    show (Finset.univ : Finset (Fin 2)) = {0, 1} from rfl, Finset.fold_insert (by decide), Finset.fold_singleton, max_eq_left (bot_le : ⊥ ≤ f 1)]

/-- The reference's logarithm of a class's probability. -/
theorem r_lsm (b : Fin 4) (k : Fin 2) (y x : Fin 512) :
    val_main_v184 (F := Ideal) x0 (Idealize.ShloMosaic.ix4 b k y x)
      = Xof x0 b k y x - Ideal.log (Ideal.exp (Xof x0 b 0 y x) + Ideal.exp (Xof x0 b 1 y x)) := by
  pointwise [val_main_v184, val_main_call13_v10, val_main_call13_v9, val_main_call13_v8, val_main_call13_v7, val_main_call13_v6, val_main_call13_v5, val_main_call13_v4, val_main_call13_v3, val_main_call13_v2, val_main_call13_v1, val_main_call13_v0, val_main_call13_cst, val_main_call13_cst_0, val_main_call13_cst_1]
  rw [fold_two, Fin.sum_univ_two]
  refine lp_eq (x0 (Idealize.ShloMosaic.ix4 b 0 y x)) (x0 (Idealize.ShloMosaic.ix4 b 1 y x)) (x0 (Idealize.ShloMosaic.ix4 b k y x)) ?_
  match k with
  | ⟨0, _⟩ => exact Or.inl rfl
  | ⟨1, _⟩ => exact Or.inr rfl

/-- The reference's logarithm of the probability of a pixel's label. -/
theorem r_lp (b : Fin 4) (y x : Fin 512) (hL : Lof x2 b y x = 0#32 ∨ Lof x2 b y x = 1#32) :
    val_main_v186 (F := Ideal) x0 x2 (Idealize.ShloMosaic.ix4 b 0 y x) = lpS (Xof x0 b) (Lof x2 b) y x := by
  have e : val_main_call14_v5 (F := Ideal) x2 (Idealize.ShloMosaic.ix5 b 0 y x 0)
      = Scalar.select (IntOp.cmpi .slt (Lof x2 b y x) 0#32) (IntOp.addi (Lof x2 b y x) 2#32) (Lof x2 b y x) := by
    pointwise [val_main_call14_v5, val_main_call14_v4, val_main_call14_v3, val_main_call14_v2, val_main_call14_v1, val_main_call14_v0, val_main_call14_c, val_main_call14_c_0, val_main_v185]
    rfl
  unfold val_main_v186 lpS
  rw [gather_class, r_lsm]
  rcases hL with h | h
  · have : (⟨min (val_main_call14_v5 (F := Ideal) x2 (Idealize.ShloMosaic.ix5 b 0 y x 0)).toInt.toNat 1, by omega⟩ : Fin 2) = 0 := by
      refine Fin.ext ?_
      show min (BitVec.toInt (val_main_call14_v5 (F := Ideal) x2 _)).toNat 1 = 0
      rw [e, h]; decide
    rw [this, if_pos h]
  · have : (⟨min (val_main_call14_v5 (F := Ideal) x2 (Idealize.ShloMosaic.ix5 b 0 y x 0)).toInt.toNat 1, by omega⟩ : Fin 2) = 1 := by
      refine Fin.ext ?_
      show min (BitVec.toInt (val_main_call14_v5 (F := Ideal) x2 _)).toNat 1 = 1
      rw [e, h]; decide
    rw [this, if_neg (by rw [h]; decide)]

/-- The reference's result. -/
theorem r_out (hL : ∀ b y x, Lof x2 b y x = 0#32 ∨ Lof x2 b y x = 1#32) :
    val_main_v204 (F := Ideal) x0 x1 x2 x3 Idealize.ShloMosaic.ix0
      = Ideal.div (∑ b : Fin 4, focS (Xof x0 b) (Lof x2 b)) (Ideal.ofBits .f32 1233125376#32)
        + Ideal.div (∑ b : Fin 4, interS (Eof x1 b) (Iof x3 b)) (Ideal.ofBits .f32 1082130432#32)
        + Ideal.div (∑ b : Fin 4, Ideal.div (intraS (Eof x1 b) (Iof x3 b) (fun y x => rowOf (Iof x3 b y x))) cHW) (Ideal.ofBits .f32 1082130432#32)
          * Ideal.ofBits .f32 1092616192#32 := by
  have hf : ∀ (b : Fin 4) (y x : Fin 512), val_main_v193 (F := Ideal) x0 x2 (Idealize.ShloMosaic.ix3 b y x) = foc (lpS (Xof x0 b) (Lof x2 b) y x) := by
    intro b y x
    rw [← r_lp x0 x2 b y x (hL b y x)]
    pointwise [val_main_v187, val_main_v188, val_main_v189, val_main_v190, val_main_v191, val_main_v192, val_main_v193, val_main_cst_56]
    rfl
  pointwise [val_main_v194, val_main_v195, val_main_v196, val_main_v197, val_main_v198, val_main_v199, val_main_v200, val_main_v201, val_main_v202, val_main_v203, val_main_v204, val_main_cst_57, val_main_cst_58, val_main_cst_59, val_main_cst_60, val_main_cst_61, val_main_cst_62, val_main_cst_63, val_main_cst_64, val_main_cst_65]
  simp only [hf, r_inter, r_intra]
  rfl

end Cert.Val
end
-- ==== Proof.Val.Fin.lean ====
module
public import proofs.«01_k».proof.Proof.Val.KerC
public import proofs.«01_k».proof.Proof.Val.RefC
@[expose] public section
set_option maxRecDepth 16384
noncomputable section
namespace Cert.Val
open Idealize.ShloMosaic
open scoped BigOperators
/-- A sum of two reals is real. -/
theorem isR_add {a b : EReal} (ha : IsR a) (hb : IsR b) : IsR (a + b) := by
  obtain ⟨x, rfl⟩ := ha; obtain ⟨y, rfl⟩ := hb; exact ⟨x + y, (EReal.coe_add x y).symm⟩
/-- A difference of two reals is real. -/
theorem isR_sub {a b : EReal} (ha : IsR a) (hb : IsR b) : IsR (a - b) := by
  obtain ⟨x, rfl⟩ := ha; obtain ⟨y, rfl⟩ := hb; exact ⟨x - y, (EReal.coe_sub x y).symm⟩
/-- A product of two reals is real. -/
theorem isR_mul {a b : EReal} (ha : IsR a) (hb : IsR b) : IsR (a * b) := by
  obtain ⟨x, rfl⟩ := ha; obtain ⟨y, rfl⟩ := hb; exact ⟨x * y, (EReal.coe_mul x y).symm⟩
/-- The exponential of a real is real. -/
theorem isR_exp {a : EReal} (ha : IsR a) : IsR (Ideal.exp a) := by
  obtain ⟨x, rfl⟩ := ha; exact ⟨Real.exp x, Ideal.exp_coe x⟩
/-- One is real. -/
theorem isR_one : IsR 1 := ⟨1, EReal.coe_one.symm⟩
/-- Zero is real. -/
theorem isR_zero : IsR 0 := ⟨0, EReal.coe_zero.symm⟩
/-- A real over a real other than zero is real. -/
theorem isR_div {a : EReal} (ha : IsR a) {y : ℝ} (hy : y ≠ 0) : IsR (Ideal.div a (y : EReal)) := by
  rw [Ideal.div_coe hy]; exact isR_mul ha (isR_coe _)
/-- The absolute value of a real is real. -/
theorem isR_abs {a : EReal} (ha : IsR a) : IsR (max a (-a)) := by
  obtain ⟨x, rfl⟩ := ha
  rw [← EReal.coe_neg, coe_max']; exact isR_coe _

/-- A norm held above the least one is a positive real. -/
theorem norm_pos (K : Fin 8 → EReal) (hK : ∀ d, IsR (K d)) :
    ∃ r : ℝ, 0 < r ∧ max (Ideal.sqrt (∑ d : Fin 8, K d * K d)) ce = (r : EReal) := by
  choose q hq using hK
  refine ⟨max (Real.sqrt (∑ d, q d * q d)) (11258999 / 2 ^ 50), lt_max_of_lt_right (by norm_num), ?_⟩
  simp only [hq, ← EReal.coe_mul]
  rw [coe_sum, sqrt_nonneg_coe (Finset.sum_nonneg fun d _ => mul_self_nonneg _), ce_val, coe_max']

/-- The absolute cosine of two real directions is real. -/
theorem isR_sim (K : Fin 16 → Fin 8 → EReal) (hK : ∀ k d, IsR (K k d)) (k l : Fin 16) : IsR (simS K k l) := by
  obtain ⟨r, hr, e⟩ := norm_pos (K k) (hK k)
  obtain ⟨s, hs, e'⟩ := norm_pos (K l) (hK l)
  unfold simS
  rw [e, e', ← EReal.coe_mul]
  exact isR_abs (isR_div (isR_sum _ _ fun d => isR_mul (hK k d) (hK l d)) (mul_pos hr hs).ne')

/-- The value of the word for a half. -/
theorem bits_half : Ideal.ofBits .f32 0x3F000000#32 = ((1 / 2 : ℝ) : EReal) := by
  simp [Ideal.ofBits, Ideal.ieee, -EReal.coe_mul]; norm_num
/-- The value of the word for four. -/
theorem bits_4 : Ideal.ofBits .f32 1082130432#32 = ((4 : ℝ) : EReal) := by
  simp [Ideal.ofBits, Ideal.ieee, -EReal.coe_mul]; norm_num
/-- The number of pixels of an image, as a real. -/
theorem cHW_val : cHW = ((262144 : ℝ) : EReal) := by
  unfold cHW; simp [Ideal.ofBits, Ideal.ieee, -EReal.coe_mul]; norm_num

variable (E : Fin 8 → Fin 512 → Fin 512 → EReal) (I : Fin 512 → Fin 512 → BitVec 32)

/-- A pair's weight is a real that is not negative. -/
theorem nm_real (k l : Fin 16) : ∃ r : ℝ, 0 ≤ r ∧ nmS I k l = (r : EReal) := by
  unfold nmS
  split
  · exact ⟨0, le_rfl, EReal.coe_zero.symm⟩
  · split
    · exact ⟨1 / 2, by norm_num, bits_half⟩
    · split
      · exact ⟨1, by norm_num, EReal.coe_one.symm⟩
      · exact ⟨0, le_rfl, EReal.coe_zero.symm⟩

/-- The push term of an image of real directions is real. -/
theorem isR_inter (hK : ∀ k d, IsR (kf E I k d)) : IsR (interS E I) := by
  choose w hw hn using nm_real I
  have h01 : nmS I 0 1 = ((1 / 2 : ℝ) : EReal) := by
    unfold nmS
    rw [if_neg (by decide), if_pos (Or.inl rfl), bits_half]
  have hp : 0 < ∑ k : Fin 16, ∑ l : Fin 16, w k l := by
    refine Finset.sum_pos' (fun k _ => Finset.sum_nonneg fun l _ => hw k l) ⟨0, Finset.mem_univ _, ?_⟩
    refine Finset.sum_pos' (fun l _ => hw 0 l) ⟨1, Finset.mem_univ _, ?_⟩
    have : ((w 0 1 : ℝ) : EReal) = ((1 / 2 : ℝ) : EReal) := (hn 0 1).symm.trans h01
    rw [EReal.coe_eq_coe_iff.mp this]; norm_num
  have hd : (∑ k : Fin 16, ∑ l : Fin 16, nmS I k l) = ((∑ k : Fin 16, ∑ l : Fin 16, w k l : ℝ) : EReal) := by
    simp only [hn, coe_sum]
  unfold interS
  rw [hd]
  refine isR_div (isR_sum _ _ fun k => isR_sum _ _ fun l => isR_mul (isR_sub (isR_exp (isR_sim _ hK k l)) isR_one) ?_) hp.ne'
  rw [hn]; exact isR_coe _

/-- The pull term of an image whose cosines are real is real. -/
theorem isR_intra (J : Fin 512 → Fin 512 → Fin 16)
    (h : ∀ y x, IsR (cosR (fun d => kf E I (J y x) d) (fun d => E d y x))) : IsR (Ideal.div (intraS E I J) cHW) := by
  rw [cHW_val]
  exact isR_div (isR_sum _ _ fun y => isR_sum _ _ fun x => isR_sub (isR_exp (isR_sub isR_one (h y x))) isR_one) (by norm_num)

/-- The images' terms taken together, or one by one. -/
theorem fin_eq (f : EReal) (a c : Fin 4 → EReal) (ha : ∀ b, IsR (a b)) (hc : ∀ b, IsR (c b)) :
    f + Ideal.div ((((0 + (a 0 + c 0 * Ideal.ofBits .f32 0x41200000#32)) + (a 1 + c 1 * Ideal.ofBits .f32 0x41200000#32))
        + (a 2 + c 2 * Ideal.ofBits .f32 0x41200000#32)) + (a 3 + c 3 * Ideal.ofBits .f32 0x41200000#32)) (Ideal.ofBits .f32 1082130432#32)
      = f + Ideal.div (∑ b, a b) (Ideal.ofBits .f32 1082130432#32)
        + Ideal.div (∑ b, c b) (Ideal.ofBits .f32 1082130432#32) * Ideal.ofBits .f32 1092616192#32 := by
  choose p hp using ha
  choose q hq using hc
  rw [add_assoc f]
  refine congrArg (f + ·) ?_
  rw [bits_4, bits_10]
  simp only [hp, hq, coe_sum]
  have h4 : (4 : ℝ) ≠ 0 := by norm_num
  rw [Ideal.div_coe h4, Ideal.div_coe h4, Ideal.div_coe h4, zero_add]
  simp only [← EReal.coe_mul, ← EReal.coe_add]
  rw [Fin.sum_univ_four, Fin.sum_univ_four]
  congr 1; ring

end Cert.Val
end
-- ==== Proof.KernelIdealRun.KernelValue.lean ====
module
public import proofs.«01_k».proof.Proof.KernelIdealRun.StepVal
@[expose] public section
set_option maxRecDepth 16384

noncomputable section
namespace Cert.KernelIdeal.Hand
open Cert.KernelIdeal.Gen
open Idealize.ShloMosaic Idealize.ShloMosaic.TcCoe Idealize.ShloMosaic.Tactic
variable {F : FTy → Type} [FloatOps F] [Named F]
variable (m : (ℓ : Loc nD τ sig) → Buf (Elt F) ℓ) (c : Dev nD)

/-- The grid point at which batch entry `b`'s sweep is at its step `k`. -/
def pt (b k : ℕ) : Fin cfg0.N := ⟨(4 * b + k) % 16, by
  have h : cfg0.N = 16 := N_0
  rw [h]; exact Nat.mod_lt _ (by omega)⟩

/-- A grid point is its batch entry and its step. -/
theorem pt_self (t : Fin cfg0.N) (k : ℕ) (h : t.val % 4 = k) : t = pt (t.val / 4) k := by
  refine Fin.ext ?_
  have := lt16 t
  show t.val = (4 * (t.val / 4) + k) % 16
  omega

/-- The embedding block of strip `k`. -/
def X0 (b k : ℕ) : Vec F S1x8x256x512 .f32 := iblk m c 0 (pt b k)
/-- The instance block of strip `k`. -/
def X1 (b k : ℕ) : Vec F S1x1x256x512 .i32 := iblk m c 1 (pt b k)
/-- The logit block of step `k`. -/
def X2 (b k : ℕ) : Vec F S1x2x256x512 .f32 := iblk m c 2 (pt b k)
/-- The label block of step `k`. -/
def X3 (b k : ℕ) : Vec F S1x256x512 .i32 := iblk m c 3 (pt b k)
/-- The strip's embedding, flat. -/
def EM (b k : ℕ) := k0_pay25 (X0 m c b k)
/-- The strip's instance mask, flat. -/
def MK (b k : ℕ) := k0_pay28 (F := F) ids (X1 m c b k)
/-- The strip's row counts. -/
def RW' (b k : ℕ) := k0_pay5 (F := F) (k0_pay30 ids (X1 m c b k))
/-- The instance sums after the first strip. -/
def SU0 (b : ℕ) := k0_pay29 ids (X0 m c b 0) (X1 m c b 0) k0_pay1
/-- The instance sums of the image. -/
def SU1 (b : ℕ) := k0_pay29 ids (X0 m c b 1) (X1 m c b 1) (SU0 m c b)
/-- The column counts after the first strip. -/
def CO0 (b : ℕ) := k0_pay4 (k0_pay31 (F := F) ids (X1 m c b 0) k0_pay2)
/-- The column counts of the image. -/
def CO1 (b : ℕ) := k0_pay4 (k0_pay31 (F := F) ids (X1 m c b 1) (CO0 m c b))
/-- The normalised means. -/
def KF (b : ℕ) := k0_pay10 (CO1 m c b) (SU1 m c b)
/-- The windows. -/
def RE (b : ℕ) := rectOf (CO1 m c b) (RW' m c b 0) (RW' m c b 1)
/-- The presence counts after the first strip. -/
def CM0 (b : ℕ) := k0_pay39 (BitVec.ofNat 32 0) (k0_pay35 (MK m c b 0)) (RE m c b) (k0_pay37 (RE m c b)) (k0_pay38 (RE m c b)) k0_pay3
/-- The presence counts. -/
def CM1 (b : ℕ) := k0_pay39 (BitVec.ofNat 32 1) (k0_pay35 (MK m c b 1)) (RE m c b) (k0_pay37 (RE m c b)) (k0_pay38 (RE m c b)) (CM0 m c b)
/-- The zero the accumulators start at. -/
def z0 : F .f32 := FloatOps.ofBits FTy.f32 0#32
/-- The pull term after the first strip. -/
def IN0 (b : ℕ) := k0_pay36 (EM m c b 0) (MK m c b 0) (KF m c b) z0
/-- The pull term of the image. -/
def IN1 (b : ℕ) := k0_pay36 (EM m c b 1) (MK m c b 1) (KF m c b) (IN0 m c b)
/-- The focal accumulator after one more strip. -/
def fo (b k : ℕ) (prev : F .f32) : F .f32 :=
  k0_pay7 (k0_pay40 (fun j => X2 m c b (2 + k) (ValueIdx.ix4 0 0 (j 2) (j 3)))) (k0_pay41 (fun j => X2 m c b (2 + k) (ValueIdx.ix4 0 1 (j 2) (j 3)))) (X3 m c b (2 + k)) prev
/-- The focal accumulator before batch entry `b`. -/
def focB : ℕ → F .f32
  | 0 => z0
  | b + 1 => fo m c b 1 (fo m c b 0 (focB b))
/-- The accumulator of the other terms before batch entry `b`. -/
def accB : ℕ → F .f32
  | 0 => z0
  | b + 1 => k0_pay8 (k0_pay32 (KF m c b)) (k0_pay33 (CM1 m c b)) k0_pay34 z0 (accB b) (IN1 m c b)
/-- The focal accumulator starts at zero. -/
theorem focB_zero : focB m c 0 = z0 := rfl
/-- The accumulator of the other terms starts at zero. -/
theorem accB_zero : accB m c 0 = z0 := rfl
/-- What is written out at the end of batch entry `b`. -/
def outB (b : ℕ) : F .f32 := k0_pay9 (focB m c (b + 1)) (accB m c (b + 1))

/-- What the scratch holds before grid point `n`. -/
def Inv (n : ℕ) (σ : St F) : Prop :=
  (n % 4 = 0 → n ≠ 0 → σ.s9 = (fun _ => focB m c (n / 4)) ∧ σ.s10 = (fun _ => accB m c (n / 4)))
  ∧ (n % 4 = 1 → slot σ.s0 0 = EM m c (n / 4) 0 ∧ slot σ.s1 0 = MK m c (n / 4) 0 ∧ slot σ.s4 0 = RW' m c (n / 4) 0
      ∧ σ.s2 = SU0 m c (n / 4) ∧ σ.s3 = CO0 m c (n / 4) ∧ σ.s7 = k0_pay3 ∧ σ.s8 = (fun _ => z0)
      ∧ σ.s9 = (fun _ => focB m c (n / 4)) ∧ σ.s10 = (fun _ => accB m c (n / 4)))
  ∧ (n % 4 = 2 → slot σ.s0 0 = EM m c (n / 4) 0 ∧ slot σ.s1 0 = MK m c (n / 4) 0
      ∧ slot σ.s0 1 = EM m c (n / 4) 1 ∧ slot σ.s1 1 = MK m c (n / 4) 1
      ∧ σ.s5 = KF m c (n / 4) ∧ σ.s6 = RE m c (n / 4) ∧ σ.s7 = k0_pay3 ∧ σ.s8 = (fun _ => z0)
      ∧ σ.s9 = (fun _ => focB m c (n / 4)) ∧ σ.s10 = (fun _ => accB m c (n / 4)))
  ∧ (n % 4 = 3 → slot σ.s0 1 = EM m c (n / 4) 1 ∧ slot σ.s1 1 = MK m c (n / 4) 1
      ∧ σ.s5 = KF m c (n / 4) ∧ σ.s6 = RE m c (n / 4) ∧ σ.s7 = CM0 m c (n / 4) ∧ σ.s8 = (fun _ => IN0 m c (n / 4))
      ∧ σ.s9 = (fun _ => fo m c (n / 4) 0 (focB m c (n / 4))) ∧ σ.s10 = (fun _ => accB m c (n / 4)))

/-- The step of the scratch at a grid point, on that point's blocks. -/
def stp (t : Fin cfg0.N) (xi4 : Vec F S1x1 .f32) (σ : St F) : St F :=
  step c t (iblk m c 0 t) (iblk m c 1 t) (iblk m c 2 t) (iblk m c 3 t) xi4 σ

/-- The invariant after a point that starts the first image. -/
theorem inv_A (t : Fin cfg0.N) (h : t.val = 0) (xi4 : Vec F S1x1 .f32) (σ : St F) (hI : Inv m c t.val σ) :
    Inv m c (t.val + 1) (stp m c t xi4 σ) := by
  have h' : t.val % 4 = 0 := by omega
  have hX0 : iblk m c 0 t = X0 m c (t.val / 4) 0 := by
    show _ = iblk m c 0 (pt (t.val / 4) 0)
    rw [← pt_self t 0 h']
  have hX1 : iblk m c 1 t = X1 m c (t.val / 4) 0 := by
    show _ = iblk m c 1 (pt (t.val / 4) 0)
    rw [← pt_self t 0 h']
  have hX2 : iblk m c 2 t = X2 m c (t.val / 4) 0 := by
    show _ = iblk m c 2 (pt (t.val / 4) 0)
    rw [← pt_self t 0 h']
  have hX3 : iblk m c 3 t = X3 m c (t.val / 4) 0 := by
    show _ = iblk m c 3 (pt (t.val / 4) 0)
    rw [← pt_self t 0 h']
  have e : stp m c t xi4 σ = stepA c t h (iblk m c 0 t) (iblk m c 1 t) (iblk m c 2 t) (iblk m c 3 t) xi4 σ := by
    unfold stp step; rw [dif_pos h]
  rw [e]
  refine ⟨fun g => absurd g (by omega), fun _ => ?_, fun g => absurd g (by omega), fun g => absurd g (by omega)⟩
  rw [show (t.val + 1) / 4 = t.val / 4 by omega]
  have z : t.val / 4 = 0 := by omega
  refine ⟨?_, ?_, ?_, ?_, ?_, ?_, ?_, ?_, ?_⟩
  · exact (stepA_s0 c t h _ _ _ _ xi4 σ).trans (by rw [hX0]; rfl)
  · exact (stepA_s1 c t h _ _ _ _ xi4 σ).trans (by rw [hX1]; rfl)
  · exact (stepA_s4 c t h _ _ _ _ xi4 σ).trans (by rw [hX1, RW'])
  · exact (stepA_s2 c t h _ _ _ _ xi4 σ).trans (by rw [hX0, hX1, SU0])
  · exact (stepA_s3 c t h _ _ _ _ xi4 σ).trans (by rw [hX1, CO0])
  · exact stepA_s7 c t h _ _ _ _ xi4 σ
  · exact stepA_s8 c t h _ _ _ _ xi4 σ
  · exact (stepA_s9 c t h _ _ _ _ xi4 σ).trans (by rw [z, focB_zero, z0])
  · exact (stepA_s10 c t h _ _ _ _ xi4 σ).trans (by rw [z, accB_zero, z0])

/-- The invariant after a point that starts a later image. -/
theorem inv_E (t : Fin cfg0.N) (h : t.val % 4 = 0 ∧ t.val ≠ 0) (xi4 : Vec F S1x1 .f32) (σ : St F) (hI : Inv m c t.val σ) :
    Inv m c (t.val + 1) (stp m c t xi4 σ) := by
  have h' := h.1
  have hX0 : iblk m c 0 t = X0 m c (t.val / 4) 0 := by
    show _ = iblk m c 0 (pt (t.val / 4) 0)
    rw [← pt_self t 0 h']
  have hX1 : iblk m c 1 t = X1 m c (t.val / 4) 0 := by
    show _ = iblk m c 1 (pt (t.val / 4) 0)
    rw [← pt_self t 0 h']
  have hX2 : iblk m c 2 t = X2 m c (t.val / 4) 0 := by
    show _ = iblk m c 2 (pt (t.val / 4) 0)
    rw [← pt_self t 0 h']
  have hX3 : iblk m c 3 t = X3 m c (t.val / 4) 0 := by
    show _ = iblk m c 3 (pt (t.val / 4) 0)
    rw [← pt_self t 0 h']
  have e : stp m c t xi4 σ = stepE c t h (iblk m c 0 t) (iblk m c 1 t) (iblk m c 2 t) (iblk m c 3 t) xi4 σ := by
    unfold stp step; rw [dif_neg h.2, dif_pos h.1]
  rw [e]
  obtain ⟨i9, i10⟩ := hI.1 h.1 h.2
  refine ⟨fun g => absurd g (by omega), fun _ => ?_, fun g => absurd g (by omega), fun g => absurd g (by omega)⟩
  rw [show (t.val + 1) / 4 = t.val / 4 by omega]
  refine ⟨?_, ?_, ?_, ?_, ?_, ?_, ?_, ?_, ?_⟩
  · exact (stepE_s0 c t h _ _ _ _ xi4 σ).trans (by rw [hX0]; rfl)
  · exact (stepE_s1 c t h _ _ _ _ xi4 σ).trans (by rw [hX1]; rfl)
  · exact (stepE_s4 c t h _ _ _ _ xi4 σ).trans (by rw [hX1, RW'])
  · exact (stepE_s2 c t h _ _ _ _ xi4 σ).trans (by rw [hX0, hX1, SU0])
  · exact (stepE_s3 c t h _ _ _ _ xi4 σ).trans (by rw [hX1, CO0])
  · exact stepE_s7 c t h _ _ _ _ xi4 σ
  · exact stepE_s8 c t h _ _ _ _ xi4 σ
  · unfold stepE; dsimp only; exact i9
  · unfold stepE; dsimp only; exact i10

/-- The invariant after the point that ends the first sweep of an image. -/
theorem inv_B (t : Fin cfg0.N) (h : t.val % 4 = 1) (xi4 : Vec F S1x1 .f32) (σ : St F) (hI : Inv m c t.val σ) :
    Inv m c (t.val + 1) (stp m c t xi4 σ) := by
  have h' := h
  have hX0 : iblk m c 0 t = X0 m c (t.val / 4) 1 := by
    show _ = iblk m c 0 (pt (t.val / 4) 1)
    rw [← pt_self t 1 h']
  have hX1 : iblk m c 1 t = X1 m c (t.val / 4) 1 := by
    show _ = iblk m c 1 (pt (t.val / 4) 1)
    rw [← pt_self t 1 h']
  have hX2 : iblk m c 2 t = X2 m c (t.val / 4) 1 := by
    show _ = iblk m c 2 (pt (t.val / 4) 1)
    rw [← pt_self t 1 h']
  have hX3 : iblk m c 3 t = X3 m c (t.val / 4) 1 := by
    show _ = iblk m c 3 (pt (t.val / 4) 1)
    rw [← pt_self t 1 h']
  have e : stp m c t xi4 σ = stepB c t h (iblk m c 0 t) (iblk m c 1 t) (iblk m c 2 t) (iblk m c 3 t) xi4 σ := by
    unfold stp step; rw [dif_neg (by omega), dif_neg (by omega), dif_pos h]
  rw [e]
  obtain ⟨i0, i1, i4, i2, i3, i7, i8, i9, i10⟩ := hI.2.1 h
  refine ⟨fun g => absurd g (by omega), fun g => absurd g (by omega), fun _ => ?_, fun g => absurd g (by omega)⟩
  rw [show (t.val + 1) / 4 = t.val / 4 by omega]
  refine ⟨?_, ?_, ?_, ?_, ?_, ?_, ?_, ?_, ?_, ?_⟩
  · exact (stepB_s0o c t h _ _ _ _ xi4 σ).trans i0
  · exact (stepB_s1o c t h _ _ _ _ xi4 σ).trans i1
  · exact (stepB_s0 c t h _ _ _ _ xi4 σ).trans (by rw [hX0]; rfl)
  · exact (stepB_s1 c t h _ _ _ _ xi4 σ).trans (by rw [hX1]; rfl)
  · exact (stepB_s5 c t h _ _ _ _ xi4 σ).trans (by rw [hX0, hX1, i3, i2]; rfl)
  · exact (stepB_s6 c t h _ _ _ _ xi4 σ).trans (by rw [hX1, i3, i4]; rfl)
  · unfold stepB; dsimp only; exact i7
  · unfold stepB; dsimp only; exact i8
  · unfold stepB; dsimp only; exact i9
  · unfold stepB; dsimp only; exact i10

/-- The invariant after the first point of the second sweep. -/
theorem inv_C (t : Fin cfg0.N) (h : t.val % 4 = 2) (xi4 : Vec F S1x1 .f32) (σ : St F) (hI : Inv m c t.val σ) :
    Inv m c (t.val + 1) (stp m c t xi4 σ) := by
  have h' := h
  have hX0 : iblk m c 0 t = X0 m c (t.val / 4) 2 := by
    show _ = iblk m c 0 (pt (t.val / 4) 2)
    rw [← pt_self t 2 h']
  have hX1 : iblk m c 1 t = X1 m c (t.val / 4) 2 := by
    show _ = iblk m c 1 (pt (t.val / 4) 2)
    rw [← pt_self t 2 h']
  have hX2 : iblk m c 2 t = X2 m c (t.val / 4) 2 := by
    show _ = iblk m c 2 (pt (t.val / 4) 2)
    rw [← pt_self t 2 h']
  have hX3 : iblk m c 3 t = X3 m c (t.val / 4) 2 := by
    show _ = iblk m c 3 (pt (t.val / 4) 2)
    rw [← pt_self t 2 h']
  have e : stp m c t xi4 σ = stepC c t h (iblk m c 0 t) (iblk m c 1 t) (iblk m c 2 t) (iblk m c 3 t) xi4 σ := by
    unfold stp step; rw [dif_neg (by omega), dif_neg (by omega), dif_neg (by omega), dif_pos h]
  rw [e]
  obtain ⟨i0, i1, i0', i1', i5, i6, i7, i8, i9, i10⟩ := hI.2.2.1 h
  refine ⟨fun g => absurd g (by omega), fun g => absurd g (by omega), fun g => absurd g (by omega), fun _ => ?_⟩
  rw [show (t.val + 1) / 4 = t.val / 4 by omega]
  refine ⟨?_, ?_, ?_, ?_, ?_, ?_, ?_, ?_⟩
  · unfold stepC; dsimp only; exact i0'
  · unfold stepC; dsimp only; exact i1'
  · unfold stepC; dsimp only; exact i5
  · unfold stepC; dsimp only; exact i6
  · exact (stepC_s7 c t h _ _ _ _ xi4 σ).trans (by rw [i1, i6, i7]; rfl)
  · exact (stepC_s8 c t h _ _ _ _ xi4 σ).trans (by rw [i0, i1, i5, i8]; rfl)
  · exact (stepC_s9 c t h _ _ _ _ xi4 σ).trans (by rw [hX2, hX3, i9]; rfl)
  · unfold stepC; dsimp only; exact i10

/-- The invariant after the last point of an image. -/
theorem inv_D (t : Fin cfg0.N) (h : t.val % 4 = 3) (xi4 : Vec F S1x1 .f32) (σ : St F) (hI : Inv m c t.val σ) :
    Inv m c (t.val + 1) (stp m c t xi4 σ) := by
  have h' := h
  have hX0 : iblk m c 0 t = X0 m c (t.val / 4) 3 := by
    show _ = iblk m c 0 (pt (t.val / 4) 3)
    rw [← pt_self t 3 h']
  have hX1 : iblk m c 1 t = X1 m c (t.val / 4) 3 := by
    show _ = iblk m c 1 (pt (t.val / 4) 3)
    rw [← pt_self t 3 h']
  have hX2 : iblk m c 2 t = X2 m c (t.val / 4) 3 := by
    show _ = iblk m c 2 (pt (t.val / 4) 3)
    rw [← pt_self t 3 h']
  have hX3 : iblk m c 3 t = X3 m c (t.val / 4) 3 := by
    show _ = iblk m c 3 (pt (t.val / 4) 3)
    rw [← pt_self t 3 h']
  have e : stp m c t xi4 σ = stepD c t h (iblk m c 0 t) (iblk m c 1 t) (iblk m c 2 t) (iblk m c 3 t) xi4 σ := by
    unfold stp step; rw [dif_neg (by omega), dif_neg (by omega), dif_neg (by omega), dif_neg (by omega), dif_pos h]
  rw [e]
  obtain ⟨i0', i1', i5, i6, i7, i8, i9, i10⟩ := hI.2.2.2 h
  refine ⟨fun _ _ => ?_, fun g => absurd g (by omega), fun g => absurd g (by omega), fun g => absurd g (by omega)⟩
  rw [show (t.val + 1) / 4 = t.val / 4 + 1 by omega]
  refine ⟨?_, ?_⟩
  · exact (stepD_s9 c t h _ _ _ _ xi4 σ).trans (by rw [hX2, hX3, i9]; rfl)
  · exact (stepD_s10 c t h _ _ _ _ xi4 σ).trans (by rw [i0', i1', i5, i6, i7, i8, i10]; rfl)

/-- The invariant holds from point to point. -/
theorem inv_step (t : Fin cfg0.N) (xi4 : Vec F S1x1 .f32) (σ : St F) (hI : Inv m c t.val σ) :
    Inv m c (t.val + 1) (stp m c t xi4 σ) := by
  by_cases hA : t.val = 0
  · exact inv_A m c t hA xi4 σ hI
  by_cases hE : t.val % 4 = 0
  · exact inv_E m c t ⟨hE, hA⟩ xi4 σ hI
  by_cases hB : t.val % 4 = 1
  · exact inv_B m c t hB xi4 σ hI
  by_cases hC : t.val % 4 = 2
  · exact inv_C m c t hC xi4 σ hI
  exact inv_D m c t (by omega) xi4 σ hI

/-- What the body writes out at the last point of an image. -/
theorem inv_out (t : Fin cfg0.N) (h : t.val % 4 = 3) (xi4 : Vec F S1x1 .f32) (σ : St F) (hI : Inv m c t.val σ) :
    outp c t (iblk m c 0 t) (iblk m c 1 t) (iblk m c 2 t) (iblk m c 3 t) xi4 σ = fun _ => outB m c (t.val / 4) := by
  have h' := h
  have hX0 : iblk m c 0 t = X0 m c (t.val / 4) 3 := by
    show _ = iblk m c 0 (pt (t.val / 4) 3)
    rw [← pt_self t 3 h']
  have hX1 : iblk m c 1 t = X1 m c (t.val / 4) 3 := by
    show _ = iblk m c 1 (pt (t.val / 4) 3)
    rw [← pt_self t 3 h']
  have hX2 : iblk m c 2 t = X2 m c (t.val / 4) 3 := by
    show _ = iblk m c 2 (pt (t.val / 4) 3)
    rw [← pt_self t 3 h']
  have hX3 : iblk m c 3 t = X3 m c (t.val / 4) 3 := by
    show _ = iblk m c 3 (pt (t.val / 4) 3)
    rw [← pt_self t 3 h']
  unfold outp; rw [dif_pos h]
  obtain ⟨i0', i1', i5, i6, i7, i8, i9, i10⟩ := hI.2.2.2 h
  exact (stepD_sout c t h _ _ _ _ xi4 σ).trans (by rw [i0', i1', i5, i6, i7, i8, i9, i10, hX2, hX3]; rfl)

end Cert.KernelIdeal.Hand
end
-- ==== Proof.KernelIdealRun.ValueRun.lean ====
module

public import proofs.«01_k».proof.Proof.KernelIdealRun.KernelValue
public import Idealize.ShloMosaic.Lib.Claim

@[expose] public section

set_option maxRecDepth 16384

noncomputable section

namespace Cert.KernelIdeal.HandV

open Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Where a sweep does not end an image, output 4 is idle: the body stores nothing into it. -/
theorem idle4 : ∀ t : Fin cfg0.N, t.val % 4 ≠ 3 → cfg0.idle 4 (grid0.coords t) = true := by decide +kernel
/-- There the pipeline does not write output 4's block back. -/
theorem noFlush4 : ∀ t : Fin cfg0.N, t.val % 4 ≠ 3 → (cfg0.win 4).flush t = false := by decide +kernel
/-- Where a sweep ends an image, output 4 is stored. -/
theorem live4 : ∀ t : Fin cfg0.N, t.val % 4 = 3 → cfg0.idle 4 (grid0.coords t) = false := by decide +kernel
/-- A write-back comes at the end of an image only. -/
theorem flush4 : ∀ t : Fin cfg0.N, (cfg0.win 4).flush t = true → t.val = 15 := by decide +kernel

/-- Between points the scratch holds what `Inv` says and the generator register anything. -/
def Phi (c : Dev nD) (n : ℕ) : sProp 𝕄 :=
  iprop((∃ σ : St F, ⌜Inv m c n σ⌝ ∗ scr c σ) ∗ (∃ r, prngReg c r))

/-- The proof data of the pipeline: the arrays as the region finds them, each input's buffer at its block, the output
    at the value of its image, and between points the scratch as `Inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => outB m c (t.val / 4)
  Φ t := Phi m c t.val
  q _ := fullShare
  owed _ := 0

/-- Each window's array starts at what the region finds in it. -/
theorem A_eq (c : Dev nD) (w : Fin cfg0.W) : (dats m 0 c).A w = V m c (Pipeline.arrRef spec0 w) := by
  dsimp only [dats]
/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = fun _ => outB m c (t.val / 4) := by dsimp only [dats]
/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at a point that does not end an image. -/
theorem sound_idle (c : Dev nD) (t : Fin cfg0.N) (h : t.val % 4 ≠ 3) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [Dat.leavesExact_idle (dats m 0 c) 4 t (idle4 t h) (noFlush4 t h)]
  iintro ⟨⟨⟨%σ, %hI, HS⟩, Hg⟩, Ho, ⟨%d0, H0⟩, ⟨%d1, H1⟩, ⟨%d2, H2⟩, ⟨%d3, H3⟩, ⟨%d4, H4⟩⟩
  iapply (triple c t (iblk m c 0 t) (iblk m c 1 t) (iblk m c 2 t) (iblk m c 3 t) _ σ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _
      isplitr
      swap
      · iexact HS
      ipureintro
      exact inv_step m c t _ σ hI
    iexact Hg
  isplitl [Ho]; · iexact Ho
  isplitl [H0]; · iexact H0
  isplitl [H1]; · iexact H1
  isplitl [H2]; · iexact H2
  isplitl [H3]; · iexact H3
  iexists d4
  have e : outp c t (iblk m c 0 t) (iblk m c 1 t) (iblk m c 2 t) (iblk m c 3 t) ((dats m 0 c).before 4 t d4) σ = (dats m 0 c).before 4 t d4 := by
    unfold outp; rw [dif_neg h]
  rw [e]
  iexact H4

set_option maxHeartbeats 1600000 in
/-- The body at a point that ends an image. -/
theorem sound_live (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [live4 t h], after0_4]
  iintro ⟨⟨⟨%σ, %hI, HS⟩, Hg⟩, Ho, ⟨%d0, H0⟩, ⟨%d1, H1⟩, ⟨%d2, H2⟩, ⟨%d3, H3⟩, ⟨%d4, H4⟩⟩
  iapply (triple c t (iblk m c 0 t) (iblk m c 1 t) (iblk m c 2 t) (iblk m c 3 t) _ σ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _
      isplitr
      swap
      · iexact HS
      ipureintro
      exact inv_step m c t _ σ hI
    iexact Hg
  isplitl [Ho]; · iexact Ho
  isplitl [H0]; · iexact H0
  isplitl [H1]; · iexact H1
  isplitl [H2]; · iexact H2
  isplitl [H3]; · iexact H3
  rw [inv_out m c t h _ σ hI]
  iexact H4

/-- The body at any point keeps the inputs, the invariant, and the output at its value. -/
theorem sound_body (c : Dev nD) (t : Fin cfg0.N) :
    bodyPre m c t ⊢ wp frame (wpE (defs₀ (F := F)) Variants.none c none) Set.univ (bodyAt0 t) (fun _ => bodyPost m c t) := by
  by_cases h : t.val % 4 = 3
  · exact sound_live m c t h
  · exact sound_idle m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region gives the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩⟩, Hg⟩
  isplitl [HS0 HS1 HS2 HS3 HS4 HS5 HS6 HS7 HS8 HS9 HS10]
  · iexists (⟨e0, e1, e2, e3, e4, e5, e6, e7, e8, e9, e10⟩ : St F)
    isplitr
    · ipureintro
      exact ⟨fun _ h => absurd rfl h, fun h => absurd h (by omega), fun h => absurd h (by omega), fun h => absurd h (by omega)⟩
    unfold scr
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iexact HS10
  iexact Hg

/-- The invariant after the last point is what the region gives back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi scr
  iintro ⟨⟨%σ, %hI, HS0, HS1, HS2, HS3, HS4, HS5, HS6, HS7, HS8, HS9, HS10⟩, Hg⟩
  isplitl [HS0 HS1 HS2 HS3 HS4 HS5 HS6 HS7 HS8 HS9 HS10]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iexists _; iexact HS10
  iexact Hg

-- `θ_run_frame_around_track`'s implicit arguments are found by unifying its conclusion with this one
set_option backward.isDefEq.respectTransparency.types false in
set_option maxHeartbeats 800000 in
/-- THE LAUNCH: the arrays of the pipeline end at what the proof data says, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The output array ends at the last image's value. -/
theorem arr4 (c : Dev nD) : (dats m 0 c).arrAt 4 cfg0.N = fun _ => outB m c 3 := by
  refine (dats m 0 c).arrAt_eq_of_covers 4 _ (by decide +kernel) fun t hf y => ?_
  have h : t.val / 4 = 3 := by rw [flush4 t hf]
  rw [after0_4, h]
  rfl

/-- THE RUN: @main ends with the last image's value in its result. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.HandV

end
-- ==== Proof.Val.Blocks.lean ====
module
public import proofs.«01_k».proof.Proof.Val.Fin
public import proofs.«01_k».proof.Proof.KernelIdealRun.ValueRun
@[expose] public section
set_option maxRecDepth 16384
noncomputable section
namespace Cert.Val
open Idealize.ShloMosaic
open scoped BigOperators
open Cert.KernelIdeal Cert.KernelIdeal.Gen Cert.KernelIdeal.Hand
open Idealize.ShloMosaic.TcCoe Idealize.ShloMosaic.Tactic

/-- In an image's first two points the embedding and instance windows are at the point's strip. -/
theorem idxA : ∀ t : Fin cfg0.N, t.val % 4 < 2 →
    win0_0.index t = ![t.val / 4, 0, t.val % 4, 0] ∧ win0_1.index t = ![t.val / 4, 0, t.val % 4, 0] :=
  (by decide +kernel : ∀ t : Fin grid0.N, _)
/-- In an image's last two points the logit and label windows are at the point's strip. -/
theorem idxB : ∀ t : Fin cfg0.N, 2 ≤ t.val % 4 →
    win0_2.index t = ![t.val / 4, 0, t.val % 4 - 2, 0] ∧ win0_3.index t = ![t.val / 4, t.val % 4 - 2, 0] :=
  (by decide +kernel : ∀ t : Fin grid0.N, _)

variable (m : (ℓ : Loc nD τ sig) → Buf (Elt Ideal) ℓ) (c : Dev nD)

/-- The value of a point. -/
theorem pt_val (b : Fin 4) (k : ℕ) (hk : k < 4) : (pt b.val k).val = 4 * b.val + k := by
  show (4 * b.val + k) % 16 = _
  omega

/-- A strip's block of embeddings. -/
theorem X0_at (b : Fin 4) (q : Fin 2) (d : Fin 8) (r : Fin 256) (x : Fin 512) :
    X0 m c b.val q.val (Idealize.ShloMosaic.ix4 0 d r x)
      = m ((c : Thread nD τ).loc main_arg1) (Idealize.ShloMosaic.ix4 b d (row q r) x) := by
  unfold X0
  have hp := pt_val b q.val (by omega)
  generalize pt b.val q.val = t at hp
  have hi := (idxA t (by omega)).1
  have h4 : t.val / 4 = b.val := by omega
  have h5 : t.val % 4 = q.val := by omega
  rw [h4, h5] at hi
  unfold row
  blk_ext [iblk, V, hi]

/-- A strip's block of instances. -/
theorem X1_at (b : Fin 4) (q : Fin 2) (r : Fin 256) (x : Fin 512) :
    X1 m c b.val q.val (Idealize.ShloMosaic.ix4 0 0 r x)
      = m ((c : Thread nD τ).loc main_arg3) (Idealize.ShloMosaic.ix4 b 0 (row q r) x) := by
  unfold X1
  have hp := pt_val b q.val (by omega)
  generalize pt b.val q.val = t at hp
  have hi := (idxA t (by omega)).2
  have h4 : t.val / 4 = b.val := by omega
  have h5 : t.val % 4 = q.val := by omega
  rw [h4, h5] at hi
  unfold row
  blk_ext [iblk, V, hi]

/-- A strip's block of logits. -/
theorem X2_at (b : Fin 4) (q : Fin 2) (e : Fin 2) (r : Fin 256) (x : Fin 512) :
    X2 m c b.val (2 + q.val) (Idealize.ShloMosaic.ix4 0 e r x)
      = m ((c : Thread nD τ).loc main_arg0) (Idealize.ShloMosaic.ix4 b e (row q r) x) := by
  unfold X2
  have hp := pt_val b (2 + q.val) (by omega)
  generalize pt b.val (2 + q.val) = t at hp
  have hi := (idxB t (by omega)).1
  have h4 : t.val / 4 = b.val := by omega
  have h5 : t.val % 4 - 2 = q.val := by omega
  rw [h4, h5] at hi
  unfold row
  blk_ext [iblk, V, hi]

/-- A strip's block of labels. -/
theorem X3_at (b : Fin 4) (q : Fin 2) (r : Fin 256) (x : Fin 512) :
    X3 m c b.val (2 + q.val) (Idealize.ShloMosaic.ix3 0 r x)
      = m ((c : Thread nD τ).loc main_arg2) (Idealize.ShloMosaic.ix3 b (row q r) x) := by
  unfold X3
  have hp := pt_val b (2 + q.val) (by omega)
  generalize pt b.val (2 + q.val) = t at hp
  have hi := (idxB t (by omega)).2
  have h4 : t.val / 4 = b.val := by omega
  have h5 : t.val % 4 - 2 = q.val := by omega
  rw [h4, h5] at hi
  unfold row
  blk_ext [iblk, V, hi]

end Cert.Val
end
-- ==== Proof.Val.Image.lean ====
module
public import proofs.«01_k».proof.Proof.Val.Blocks
@[expose] public section
set_option maxRecDepth 16384
noncomputable section
namespace Cert.Val
open Idealize.ShloMosaic
open scoped BigOperators
open Cert.KernelIdeal Cert.KernelIdeal.Gen Cert.KernelIdeal.Hand
open Idealize.ShloMosaic.TcCoe

variable (m : (ℓ : Loc nD τ sig) → Buf (Elt Ideal) ℓ) (c : Dev nD)

/-- The logits, as the launch holds them. -/
abbrev a0 : FVec Ideal ⟨4, ![4,2,512,512]⟩ .f32 := m ((c : Thread nD τ).loc main_arg0)
/-- The embeddings, as the launch holds them. -/
abbrev a1 : FVec Ideal ⟨4, ![4,8,512,512]⟩ .f32 := m ((c : Thread nD τ).loc main_arg1)
/-- The labels, as the launch holds them. -/
abbrev a2 : IVec ⟨3, ![4,512,512]⟩ 32 := m ((c : Thread nD τ).loc main_arg2)
/-- The instances, as the launch holds them. -/
abbrev a3 : IVec ⟨4, ![4,1,512,512]⟩ 32 := m ((c : Thread nD τ).loc main_arg3)
/-- The embeddings of an image. -/
abbrev Em (b : Fin 4) := Eof (a1 m c) b
/-- The instances of an image. -/
abbrev Im (b : Fin 4) := Iof (a3 m c) b

/-- The kernel's sums of an image. -/
theorem SU1_at (b : Fin 4) (k : Fin 16) (d : Fin 8) :
    SU1 m c b.val (Idealize.ShloMosaic.ix2 k d) = sm (Em m c b) (Im m c b) k d := by
  unfold SU1 SU0
  exact k_sums (Em m c b) (Im m c b) _ _ _ _ (fun d r x => X0_at m c b 0 d r x) (fun r x => X1_at m c b 0 r x)
    (fun d r x => X0_at m c b 1 d r x) (fun r x => X1_at m c b 1 r x) k d

/-- The kernel's column counts of an image. -/
theorem CO1_at (b : Fin 4) (k : Fin 16) (x : Fin 512) :
    CO1 m c b.val (Idealize.ShloMosaic.ix2 k x) = col (Im m c b) k x := by
  unfold CO1 CO0
  exact k_cols (Im m c b) _ _ (fun r x => X1_at m c b 0 r x) (fun r x => X1_at m c b 1 r x) k x

/-- The kernel's row counts of a strip. -/
theorem RW_at (b : Fin 4) (q : Fin 2) (k : Fin 16) (r : Fin 256) :
    RW' m c b.val q.val (Idealize.ShloMosaic.ix3 0 k r) = rw' (Im m c b) k (row q r) := by
  unfold RW'
  exact k_rows (Im m c b) _ q (fun r x => X1_at m c b q r x) k r

/-- The kernel's directions of an image. -/
theorem KF_at (b : Fin 4) (k : Fin 16) (d : Fin 8) :
    KF m c b.val (Idealize.ShloMosaic.ix2 k d) = kf (Em m c b) (Im m c b) k d := by
  unfold KF
  exact k_kf (Em m c b) (Im m c b) _ _ (CO1_at m c b) (SU1_at m c b) k d

/-- The kernel counts a pixel of an instance in another's window exactly where there is one. -/
theorem CM1_at (b : Fin 4) (k l : Fin 16) :
    0 < CM1 m c b.val (Idealize.ShloMosaic.ix2 k l) ↔ P (Im m c b) k l := by
  refine Iff.trans (Eq.to_iff (congrArg (fun z => (0 : EReal) < z) ?_)) (cm_pos (Im m c b) k l)
  unfold CM1 CM0 RE MK
  exact k_cms (Im m c b) _ _ _ (CO1_at m c b) (RW_at m c b 0) (RW_at m c b 1) _ _
    (fun r x => X1_at m c b 0 r x) (fun r x => X1_at m c b 1 r x) k l

/-- The kernel's zero. -/
theorem z0_val : (z0 : Ideal FTy.f32) = (0 : EReal) := by
  unfold z0
  pointwise []

/-- What the ranges and the lengths of the means give of an image. -/
structure Good (b : Fin 4) : Prop where
  /-- Every instance is one of the sixteen. -/
  inst : ∀ y x, ∃ l : Fin 16, Im m c b y x = BitVec.ofNat 32 l.val
  /-- No mean is shorter than the bound, but zero. -/
  long : ∀ k, len (Em m c b) (Im m c b) k = 0 ∨ c12 ≤ len (Em m c b) (Im m c b) k

/-- The table row of an instance literal. -/
theorem rowOf_lit : ∀ l : Fin 16, rowOf (BitVec.ofNat 32 l.val) = l := by
  decide +kernel

/-- A pixel's instance is the literal of its table row. -/
theorem inst_row (b : Fin 4) (h : Good m c b) (y x : Fin 512) :
    Im m c b y x = BitVec.ofNat 32 (rowOf (Im m c b y x)).val := by
  obtain ⟨l, e⟩ := h.inst y x
  rw [e, rowOf_lit]

/-- A sum over the strips one after the other, started at zero. -/
theorem strips (f : Fin 512 → EReal) (z u v : Ideal FTy.f32) (hz : z = 0) (hu : u = z + ∑ r, f (row 0 r))
    (hv : v = u + ∑ r, f (row 1 r)) : v = ∑ y, f y := by
  rw [hv, hu, hz, zero_add, sum_rows]

/-- The kernel's pull sum of an image. -/
theorem IN1_at (b : Fin 4) (h : Good m c b) :
    IN1 m c b.val = intraS (Em m c b) (Im m c b) (fun y x => rowOf (Im m c b y x)) := by
  have hR := fun k d => kf_real (Em m c b) (Im m c b) k (h.long k) d
  refine (strips (fun y => ∑ x, (Ideal.exp (1 - cosK (fun d => kf (Em m c b) (Im m c b) (rowOf (Im m c b y x)) d) (fun d => Em m c b d y x)) - 1))
    (z0 : Ideal FTy.f32) (IN0 m c b.val) _ z0_val ?_ ?_).trans ?_
  · unfold IN0 EM MK
    exact k_intra1 (Em m c b) (Im m c b) _ _ 0 (fun d r x => X0_at m c b 0 d r x) (fun r x => X1_at m c b 0 r x) _
      (KF_at m c b) hR (fun y x => rowOf (Im m c b y x)) (inst_row m c b h) _
  · unfold IN1 EM MK
    exact k_intra1 (Em m c b) (Im m c b) _ _ 1 (fun d r x => X0_at m c b 1 d r x) (fun r x => X1_at m c b 1 r x) _
      (KF_at m c b) hR (fun y x => rowOf (Im m c b y x)) (inst_row m c b h) _
  · unfold intraS
    refine Finset.sum_congr rfl fun y _ => Finset.sum_congr rfl fun x _ => ?_
    rw [(cos_eq (Em m c b) (Im m c b) (rowOf (Im m c b y x)) (h.long _) y x (inst_row m c b h y x)).1]

/-- The other accumulator after one more image. -/
theorem acc_at (b : Fin 4) (h : Good m c b) :
    accB m c (b.val + 1) = accB m c b.val + (interS (Em m c b) (Im m c b)
      + Ideal.div (intraS (Em m c b) (Im m c b) (fun y x => rowOf (Im m c b y x))) cHW * Ideal.ofBits .f32 0x41200000#32) := by
  rw [← IN1_at m c b h]
  exact k_acc (Em m c b) (Im m c b) _ (k_sim (Em m c b) (Im m c b) _ (KF_at m c b)) _ (CM1_at m c b) _ _

/-- The focal accumulator after one more image. -/
theorem foc_at (b : Fin 4) :
    focB m c (b.val + 1) = focB m c b.val + focS (Xof (a0 m c) b) (Lof (a2 m c) b) := by
  have h := fun q : Fin 2 => k_foc1 (Xof (a0 m c) b) (Lof (a2 m c) b) q
    (fun j => X2 m c b.val (2 + q.val) (ValueIdx.ix4 0 0 (j 2) (j 3))) (fun j => X2 m c b.val (2 + q.val) (ValueIdx.ix4 0 1 (j 2) (j 3)))
    (X3 m c b.val (2 + q.val)) (fun r x => X2_at m c b q 0 r x) (fun r x => X2_at m c b q 1 r x) (fun r x => X3_at m c b q r x)
  have e0 := h 0 (focB m c b.val)
  have e1 := h 1 (fo m c b.val 0 (focB m c b.val))
  refine e1.trans ?_
  refine (congrArg (· + _) e0).trans ?_
  unfold focS
  rw [add_assoc, ← sum_rows]

/-- What the kernel writes out, as the reference's terms. -/
theorem out_val (h : ∀ b, Good m c b) :
    outB m c 3 = Ideal.div (∑ b, focS (Xof (a0 m c) b) (Lof (a2 m c) b)) (Ideal.ofBits .f32 1233125376#32)
      + Ideal.div (∑ b, interS (Em m c b) (Im m c b)) (Ideal.ofBits .f32 1082130432#32)
      + Ideal.div (∑ b, Ideal.div (intraS (Em m c b) (Im m c b) (fun y x => rowOf (Im m c b y x))) cHW) (Ideal.ofBits .f32 1082130432#32)
        * Ideal.ofBits .f32 1092616192#32 := by
  have hf : focB m c 4 = ∑ b, focS (Xof (a0 m c) b) (Lof (a2 m c) b) := by
    rw [Fin.sum_univ_four]
    refine (foc_at m c 3).trans (congrArg (· + _) ?_)
    refine (foc_at m c 2).trans (congrArg (· + _) ?_)
    refine (foc_at m c 1).trans (congrArg (· + _) ?_)
    refine (foc_at m c 0).trans ?_
    exact (congrArg (· + _) z0_val).trans (zero_add _)
  have hR := fun b k d => kf_real (Em m c b) (Im m c b) k ((h b).long k) d
  have hc := fin_eq (Ideal.div (focB m c 4) (Ideal.ofBits .f32 1233125376#32)) (fun b => interS (Em m c b) (Im m c b))
    (fun b => Ideal.div (intraS (Em m c b) (Im m c b) (fun y x => rowOf (Im m c b y x))) cHW)
    (fun b => isR_inter _ _ (hR b))
    (fun b => isR_intra _ _ _ fun y x => (cos_eq (Em m c b) (Im m c b) _ ((h b).long _) y x (inst_row m c b (h b) y x)).2)
  rw [← hf]
  refine Eq.trans ?_ hc
  have ha : accB m c 4 = ((((0 + (interS (Em m c 0) (Im m c 0) + Ideal.div (intraS (Em m c 0) (Im m c 0) (fun y x => rowOf (Im m c 0 y x))) cHW * Ideal.ofBits .f32 0x41200000#32))
      + (interS (Em m c 1) (Im m c 1) + Ideal.div (intraS (Em m c 1) (Im m c 1) (fun y x => rowOf (Im m c 1 y x))) cHW * Ideal.ofBits .f32 0x41200000#32))
      + (interS (Em m c 2) (Im m c 2) + Ideal.div (intraS (Em m c 2) (Im m c 2) (fun y x => rowOf (Im m c 2 y x))) cHW * Ideal.ofBits .f32 0x41200000#32))
      + (interS (Em m c 3) (Im m c 3) + Ideal.div (intraS (Em m c 3) (Im m c 3) (fun y x => rowOf (Im m c 3 y x))) cHW * Ideal.ofBits .f32 0x41200000#32)) := by
    refine (acc_at m c 3 (h 3)).trans (congrArg (· + _) ?_)
    refine (acc_at m c 2 (h 2)).trans (congrArg (· + _) ?_)
    refine (acc_at m c 1 (h 1)).trans (congrArg (· + _) ?_)
    refine (acc_at m c 0 (h 0)).trans (congrArg (· + _) ?_)
    exact z0_val
  refine Eq.trans ?_ (congrArg (fun z => Ideal.div (focB m c 4) (Ideal.ofBits .f32 1233125376#32) + Ideal.div z (Ideal.ofBits .f32 1082130432#32)) ha)
  unfold outB
  pointwise [k0_pay9]

end Cert.Val
end
-- ==== Proof.Val.Runs.lean ====
module
public import proofs.«01_k».proof.Proof.Val.Image
public import proofs.«01_k».proof.Proof.Gen.ReferenceIdeal.Run
public import proofs.«01_k».proof.Proof.Gen.ReferenceIdeal.Read
@[expose] public section
set_option maxRecDepth 16384
noncomputable section
namespace Cert.Val
open Idealize.ShloMosaic
open scoped BigOperators
open Idealize.SL.Sem

set_option maxHeartbeats 1600000 in
/-- The kernel's run: its result holds the last image's value, its arguments are kept. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = (fun _ => Cert.KernelIdeal.Hand.outB m c 3)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  run_from Cert.KernelIdeal.HandV.run_main m g
  have hw : Pipeline.withArrays (Cert.KernelIdeal.cfgs 0).spec c (Cert.KernelIdeal.Gen.V0 m c)
      (fun w => (Cert.KernelIdeal.HandV.dats m 0 c).arrAt w (Cert.KernelIdeal.cfgs 0).N) (Proc.devRef .tc Cert.KernelIdeal.main_v0)
        = fun _ => Cert.KernelIdeal.Hand.outB m c 3 :=
    (Pipeline.withArrays_arr (Cert.KernelIdeal.cfgs 0).spec Cert.KernelIdeal.Gen.launch0.win.arr_inj c _ _ 4).trans
      (Cert.KernelIdeal.HandV.arr4 m c)
  unfold Pipeline.afterTail₀
  simp only [List.flatten_cons, List.flatten_nil, List.append_nil, Cert.KernelIdeal.Gen.hostOps1, StableHlo.after_cons, StableHlo.after_nil]
  rw [StableHlo.reshape_result, hw]
  rfl

/-- The reference's run: its result is the sum of the three terms, its arguments are kept. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v204)
          = Cert.ReferenceIdeal.Read.val_main_v204 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun _ h c => ⟨(h c).1.trans (Cert.ReferenceIdeal.Read.val_main_v204_eq (F := Ideal) (StableHlo.launchContents m c)), (h c).2⟩)
    (Cert.ReferenceIdeal.Value.run m g)

end Cert.Val
end
-- ==== Proof.Val.Pre.lean ====
module
public import proofs.«01_k».proof.Proof.Val.Fin
public import proofs.«01_k».proof.Pre_drawn
@[expose] public section
set_option maxRecDepth 16384
noncomputable section
namespace Cert.Val
open Idealize.ShloMosaic
open scoped BigOperators
open Cert.Pre_drawn

/-- A conjunction over a set is one exactly where every element is. -/
theorem fold_andi {ι : Type} (s : Finset ι) (f : ι → BitVec 1) :
    Finset.fold IntOp.andi 1#1 f s = 1#1 ↔ ∀ i ∈ s, f i = 1#1 := by
  classical
  induction s using Finset.induction_on with
  | empty => simp
  | insert a s ha ih =>
    rw [Finset.fold_insert ha, andi_one, ih]
    simp [Finset.mem_insert]

/-- A word between zero and a small bound is one of the literals below the bound. -/
theorem range_lit (w : BitVec 32) (n : ℕ) (hn : n < 2147483648)
    (h : IntOp.andi (IntOp.cmpi CmpIPredicate.sge w 0#32) (IntOp.cmpi CmpIPredicate.slt w (BitVec.ofNat 32 n)) = 1#1) :
    ∃ k : Fin n, w = BitVec.ofNat 32 k.val := by
  obtain ⟨h0, h1⟩ := (andi_one _ _).1 h
  rw [sge_one] at h0
  rw [slt_one, toInt_small n hn] at h1
  have e0 : (0#32 : BitVec 32).toInt = 0 := by decide
  rw [e0] at h0
  have ht : w.toInt = w.toNat := by
    rw [BitVec.toInt_eq_toNat_cond] at h0 ⊢
    have := w.isLt
    split_ifs at h0 ⊢ <;> omega
  exact ⟨⟨w.toNat, by omega⟩, by simp⟩

variable [Cert.Pre_drawn.Facts]
variable (x0 : FVec Ideal ⟨4, ![4,2,512,512]⟩ .f32) (x1 : FVec Ideal ⟨4, ![4,8,512,512]⟩ .f32)
  (x2 : IVec ⟨3, ![4,512,512]⟩ 32) (x3 : IVec ⟨4, ![4,1,512,512]⟩ 32)

/-- What the precondition says at one image and instance. -/
theorem pre_read (b : Fin 4) (k : Fin 16) (h : Cert.Pre_drawn.fn (F := Ideal) x0 x1 x2 x3 (Idealize.ShloMosaic.ix3 b k 0) = 1#1) :
    (∀ b y x, ∃ l : Fin 2, Lof x2 b y x = BitVec.ofNat 32 l.val) ∧ (∀ b y x, ∃ l : Fin 16, Iof x3 b y x = BitVec.ofNat 32 l.val)
      ∧ (len (Eof x1 b) (Iof x3 b) k = 0 ∨ c12 ≤ len (Eof x1 b) (Iof x3 b) k) := by
  pointwise [Cert.Pre_drawn.fn, Cert.Pre_drawn.fn_part1, Cert.Pre_drawn.fn_part2, Cert.Pre_drawn.fn_where] at h
  simp only [select_eq, uitofp_eq, id_eq] at h
  pointwise [] at h
  rw [andi_one, andi_one, ori_one, fold_andi, fold_andi, ofBool_one, ofBool_one, decide_eq_true_iff, decide_eq_true_iff] at h
  obtain ⟨⟨hl, hi⟩, hm⟩ := h
  refine ⟨fun b y x => range_lit _ 2 (by norm_num) (hl (b, y, x) (Finset.mem_univ _)), fun b y x => ?_, hm⟩
  refine range_lit _ 16 (by norm_num) (hi (Idealize.ShloMosaic.ix4 b 0 y x) ?_)
  rw [Finset.mem_filter]
  exact ⟨Finset.mem_univ _, funext fun a => a.elim0⟩

end Cert.Val
end
-- ==== Proof.Val.PreFacts.lean ====
module
public import proofs.«01_k».proof.Pre_drawn
@[expose] public section

namespace Cert.Val

/-- The shape relations the precondition's operations take. -/
theorem preFacts : Cert.Pre_drawn.Facts where
  bcast_S_S4x512x512 := by decide
  reducesTo_S4x512x512_S_d0_1_2 := by decide
  h_S_ := by decide
  bcast_S_S4x1x512x512 := by decide
  reducesTo_S4x1x512x512_S_d0_1_2_3 := by decide
  bcast_S16_S1x16x1x1_1 := by decide
  bcast_S4x1x512x512_S4x16x512x512_0_1_2_3 := by decide
  bcast_S1x16x1x1_S4x16x512x512_0_1_2_3 := by decide
  reducesTo_S4x16x512x512_S4x16x512_d3 := by decide
  reducesTo_S4x16x512_S4x16_d2 := by decide
  bcast_S4x16x512x512_S4x16x1x512x512_0_1_3_4 := by decide
  bcast_S4x8x512x512_S4x1x8x512x512_0_2_3_4 := by decide
  bcast_S4x16x1x512x512_S4x16x8x512x512_0_1_2_3_4 := by decide
  bcast_S4x1x8x512x512_S4x16x8x512x512_0_1_2_3_4 := by decide
  bcast_S_S16x8x512x512 := by decide
  bcast_S16x8x512x512_S4x16x8x512x512_1_2_3_4 := by decide
  reducesTo_S4x16x8x512x512_S4x16x8x512_d4 := by decide
  reducesTo_S4x16x8x512_S4x16x8_d3 := by decide
  bcast_S4x16_S4x16x1_0_1 := by decide
  bcast_S4x16x1_S4x16x8_0_1_2 := by decide
  reducesTo_S4x16x8_S4x16_d2 := by decide
  bcast_S_S4x16x1 := by decide

end Cert.Val
end
-- ==== Proof.lean ====
/- The proof of the certificate's claim: every program runs, keeps its arguments and ends quiescent; the constant named
   in the idealized kernel is read back; and at the extended reals the kernel's result is the reference's. -/
module

public import proofs.«01_k».proof.Defs
public import proofs.«01_k».proof.Proof.KernelRun.Frame
public import proofs.«01_k».proof.Proof.KernelIdealRun.Frame
public import proofs.«01_k».proof.Proof.Val.Runs
public import proofs.«01_k».proof.Proof.Val.Pre
public import proofs.«01_k».proof.Proof.Val.PreFacts
public import Idealize.ShloMosaic.Adequacy
public import Idealize.ShloMosaic.Init
public import Idealize.ShloMosaic.Lib.Claim

@[expose] public section

noncomputable section

namespace Cert.Proof

open Idealize.ShloMosaic Idealize.SL.Sem

/-- The reference runs, keeps its arguments and ends quiescent: it has no counter. -/
theorem frame_reference : Cert.quiescent_ReferenceIdeal := by
  intro m g _
  refine (θ_run _ _ _).mono (fun r h => ⟨fun c => (h c).2, ?_⟩) (Cert.Val.reference_run m g)
  funext s
  exact nomatch s

/-- The precondition makes an image's instances literals and its means not tiny. -/
theorem good [hP : Cert.Pre_drawn.Facts] (m : (ℓ : Loc Cert.KernelIdeal.nD Cert.KernelIdeal.τ Cert.KernelIdeal.sig) → Buf (Elt Ideal) ℓ)
    (h : Cert.Pre_KernelIdeal_drawn m) (c : Dev Cert.KernelIdeal.nD) (b : Fin 4) : Cert.Val.Good m c b :=
  have h' := fun k : Fin 16 => Cert.Val.pre_read _ _ _ _ b k (congrFun (h c) (Idealize.ShloMosaic.ix3 b k 0))
  ⟨(h' 0).2.1 b, fun k => (h' k).2.2⟩

/-- The kernel's value is the reference's, over the same arguments. -/
theorem value [hP : Cert.Pre_drawn.Facts] (m : (ℓ : Loc Cert.KernelIdeal.nD Cert.KernelIdeal.τ Cert.KernelIdeal.sig) → Buf (Elt Ideal) ℓ)
    (h : Cert.Pre_KernelIdeal_drawn m) (c : Dev Cert.KernelIdeal.nD) :
    Cert.ReferenceIdeal.Read.val_main_v204 (F := Ideal) (Cert.Val.a0 m c) (Cert.Val.a1 m c) (Cert.Val.a2 m c) (Cert.Val.a3 m c)
      = fun _ => Cert.KernelIdeal.Hand.outB m c 3 := by
  have hL : ∀ b y x, Cert.Val.Lof (Cert.Val.a2 m c) b y x = 0#32 ∨ Cert.Val.Lof (Cert.Val.a2 m c) b y x = 1#32 := by
    intro b y x
    obtain ⟨l, e⟩ := (Cert.Val.pre_read _ _ _ _ b 0 (congrFun (h c) (Idealize.ShloMosaic.ix3 b 0 0))).1 b y x
    rcases (by decide : ∀ l : Fin 2, l = 0 ∨ l = 1) l with rfl | rfl
    · exact Or.inl e
    · exact Or.inr e
  funext i
  rw [show i = Idealize.ShloMosaic.ix0 from funext fun a => a.elim0]
  exact (Cert.Val.r_out _ _ _ _ hL).trans (Cert.Val.out_val m c (good m h c)).symm

/-- At the extended reals the kernel's result is the reference's. -/
theorem algebraic [hP : Cert.Pre_drawn.Facts] : Cert.algebraic_KernelIdeal_ReferenceIdeal_pre_drawn := by
  intro m g m' g' hpre hagree
  refine ⟨fun c => fun _ => Cert.KernelIdeal.Hand.outB m c 3, Cert.Val.kernel_run m g, ?_⟩
  refine (θ_run _ _ _).mono (fun r hr c => ⟨(hr c).1.trans ?_, (hr c).2⟩) (Cert.Val.reference_run m' g')
  obtain ⟨e0, e1, e2, e3⟩ := hagree c
  rw [e0, e1, e2, e3]
  exact value m hpre c

/-- The certificate's claim. -/
theorem claim : Cert.Claim :=
  ⟨Cert.Kernel.Gen.facts, Cert.KernelIdeal.Gen.facts, Cert.ReferenceIdeal.Gen.facts, Cert.Val.preFacts,
    fun m ρ _ => Cert.Kernel.Hand.frame m ρ, fun m ρ _ => Cert.KernelIdeal.Hand.frame m ρ, fun m ρ _ => Cert.KernelIdeal.Hand.frame m ρ,
    frame_reference, fun m ρ _ => frame_reference m ρ trivial,
    IdealRules.named_const.statement Cert.KernelIdeal.κ "eps2" _ _ _ rfl,
    algebraic (hP := Cert.Val.preFacts)⟩

end Cert.Proof

end
